-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "ninth" .f32 0x3DE38E39#32 ((1 / 9 : ℝ) : EReal)
  ∧ IdealRules.named_const.Statement Cert.KernelIdeal.κ "loss_scale" .f32 0x3CD9AFE4#32 ((125 / 4704 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9_2)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_2) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x512x28x28 : Shape := ⟨4, ![16, 512, 28, 28]⟩
abbrev S16x1024x14x14 : Shape := ⟨4, ![16, 1024, 14, 14]⟩
abbrev S256x1536 : Shape := ⟨2, ![256, 1536]⟩
abbrev S256 : Shape := ⟨1, ![256]⟩
abbrev S2048x256 : Shape := ⟨2, ![2048, 256]⟩
abbrev S1 : Shape := ⟨1, ![1]⟩
abbrev S_ : Shape := ⟨0, ![]⟩

class Facts : Prop where
  bcast_S_S16x512x28x28 : S_.BroadcastsInDim S16x512x28x28 (![] : Fin 0 → Fin S16x512x28x28.rank)
  reducesTo_S16x512x28x28_S_d0_1_2_3 : S16x512x28x28.ReducesTo [0, 1, 2, 3] S_
  h_S_ : 0 < S_.numel
  bcast_S_S16x1024x14x14 : S_.BroadcastsInDim S16x1024x14x14 (![] : Fin 0 → Fin S16x1024x14x14.rank)
  reducesTo_S16x1024x14x14_S_d0_1_2_3 : S16x1024x14x14.ReducesTo [0, 1, 2, 3] S_
  bcast_S_S256x1536 : S_.BroadcastsInDim S256x1536 (![] : Fin 0 → Fin S256x1536.rank)
  reducesTo_S256x1536_S_d0_1 : S256x1536.ReducesTo [0, 1] S_
  bcast_S_S256 : S_.BroadcastsInDim S256 (![] : Fin 0 → Fin S256.rank)
  reducesTo_S256_S_d0 : S256.ReducesTo [0] S_
  bcast_S_S2048x256 : S_.BroadcastsInDim S2048x256 (![] : Fin 0 → Fin S2048x256.rank)
  reducesTo_S2048x256_S_d0_1 : S2048x256.ReducesTo [0, 1] S_

variable [Facts]

def fn_part1 {F : FTy → Type} [FloatOps F] (main_arg4 : FVec F S2048x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S2048x256 .f32 := Host.absf main_arg4
  let main_cst_6 : FVec F S_ .f32 := constant S_ .f32 0x7F800000#32
  let main_v20 : FVec F S2048x256 .f32 := broadcastInDim S2048x256 ![] bcast_S_S2048x256 main_cst_6
  let main_v21 : IVec S2048x256 1 := cmpf .olt main_v19 main_v20
  let main_c_7 : IVec S_ 1 := constantI S_ 1 1#1
  let main_v22 : IVec S_ 1 := (fun x v => Host.reduce IntOp.andi x v reducesTo_S2048x256_S_d0_1 h_S_) main_v21 main_c_7
  let main_v23 : IVec S_ 1 := andi main_v18 main_v22
  main_v23

def fn {F : FTy → Type} [FloatOps F] (main_arg0 : FVec F S16x512x28x28 .f32) (main_arg1 : FVec F S16x1024x14x14 .f32) (main_arg2 : FVec F S256x1536 .f32) (main_arg3 : FVec F S256 .f32) (main_arg4 : FVec F S2048x256 .f32) (main_arg5 : FVec F S1 .f32) : IVec S_ 1 :=
  let main_v0 : FVec F S16x512x28x28 .f32 := Host.absf main_arg0
  let main_cst : FVec F S_ .f32 := constant S_ .f32 0x7F800000#32
  let main_v1 : FVec F S16x512x28x28 .f32 := broadcastInDim S16x512x28x28 ![] bcast_S_S16x512x28x28 main_cst
  let main_v2 : IVec S16x512x28x28 1 := cmpf .olt main_v0 main_v1
  let main_c : IVec S_ 1 := constantI S_ 1 1#1
  let main_v3 : IVec S_ 1 := (fun x v => Host.reduce IntOp.andi x v reducesTo_S16x512x28x28_S_d0_1_2_3 h_S_) main_v2 main_c
  let main_v4 : FVec F S16x1024x14x14 .f32 := Host.absf main_arg1
  let main_cst_0 : FVec F S_ .f32 := constant S_ .f32 0x7F800000#32
  let main_v5 : FVec F S16x1024x14x14 .f32 := broadcastInDim S16x1024x14x14 ![] bcast_S_S16x1024x14x14 main_cst_0
  let main_v6 : IVec S16x1024x14x14 1 := cmpf .olt main_v4 main_v5
  let main_c_1 : IVec S_ 1 := constantI S_ 1 1#1
  let main_v7 : IVec S_ 1 := (fun x v => Host.reduce IntOp.andi x v reducesTo_S16x1024x14x14_S_d0_1_2_3 h_S_) main_v6 main_c_1
  let main_v8 : IVec S_ 1 := andi main_v3 main_v7
  let main_v9 : FVec F S256x1536 .f32 := Host.absf main_arg2
  let main_cst_2 : FVec F S_ .f32 := constant S_ .f32 0x7F800000#32
  let main_v10 : FVec F S256x1536 .f32 := broadcastInDim S256x1536 ![] bcast_S_S256x1536 main_cst_2
  let main_v11 : IVec S256x1536 1 := cmpf .olt main_v9 main_v10
  let main_c_3 : IVec S_ 1 := constantI S_ 1 1#1
  let main_v12 : IVec S_ 1 := (fun x v => Host.reduce IntOp.andi x v reducesTo_S256x1536_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S16x512x28x28 : Shape := ⟨4, ![16, 512, 28, 28]⟩
abbrev S16x1024x14x14 : Shape := ⟨4, ![16, 1024, 14, 14]⟩
abbrev S256x1536 : Shape := ⟨2, ![256, 1536]⟩
abbrev S256 : Shape := ⟨1, ![256]⟩
abbrev S2048x256 : Shape := ⟨2, ![2048, 256]⟩
abbrev S1 : Shape := ⟨1, ![1]⟩
abbrev S28x14 : Shape := ⟨2, ![28, 14]⟩
abbrev S16x512x784 : Shape := ⟨3, ![16, 512, 784]⟩
abbrev S16x1024x196 : Shape := ⟨3, ![16, 1024, 196]⟩
abbrev S256x512 : Shape := ⟨2, ![256, 512]⟩
abbrev S256x1024 : Shape := ⟨2, ![256, 1024]⟩
abbrev S28x1x14x1 : Shape := ⟨4, ![28, 1, 14, 1]⟩
abbrev S1x28x1x14 : Shape := ⟨4, ![1, 28, 1, 14]⟩
abbrev S28x28x14x14 : Shape := ⟨4, ![28, 28, 14, 14]⟩
abbrev S784x196 : Shape := ⟨2, ![784, 196]⟩
abbrev S_ : Shape := ⟨0, ![]⟩
abbrev S1x256 : Shape := ⟨2, ![1, 256]⟩
abbrev S1x1 : Shape := ⟨2, ![1, 1]⟩
abbrev S16x784x256 : Shape := ⟨3, ![16, 784, 256]⟩
abbrev S16x1x784 : Shape := ⟨3, ![16, 1, 784]⟩
abbrev S1x512x784 : Shape := ⟨3, ![1, 512, 784]⟩
abbrev S1x1024x196 : Shape := ⟨3, ![1, 1024, 196]⟩
abbrev S1x784x256 : Shape := ⟨3, ![1, 784, 256]⟩
abbrev S1x1x784 : Shape := ⟨3, ![1, 1, 784]⟩
abbrev S1x2048 : Shape := ⟨2, ![1, 2048]⟩
abbrev S512x784 : Shape := ⟨2, ![512, 784]⟩
abbrev S784x256 : Shape := ⟨2, ![784, 256]⟩
abbrev S1024x196 : Shape := ⟨2, ![1024, 196]⟩
abbrev S196x256 : Shape := ⟨2, ![196, 256]⟩
abbrev S784x1 : Shape := ⟨2, ![784, 1]⟩
abbrev S783x256 : Shape := ⟨2, ![783, 256]⟩
abbrev S28x256 : Shape := ⟨2, ![28, 256]⟩
abbrev S756x256 : Shape := ⟨2, ![756, 256]⟩
abbrev S784x2048 : Shape := ⟨2, ![784, 2048]⟩
abbrev S784 : Shape := ⟨1, ![784]⟩
abbrev S784x128 : Shape := ⟨2, ![784, 128]⟩
abbrev S784x32 : Shape := ⟨2, ![784, 32]⟩
abbrev S32x784 : Shape := ⟨2, ![32, 784]⟩
abbrev S1x784 : Shape := ⟨2, ![1, 784]⟩
abbrev S1x1x1 : Shape := ⟨3, ![1, 1, 1]⟩

abbrev nBuf : Space → Nat
  | .hbm => 25
  | .vmem => 16
  | .smem => 0
  | _ => 0

abbrev bufTy : (tb : Table) → Fin (tcTables nBuf tb) → BufTy
  | .hbm, ⟨0, _⟩ => ⟨S16x512x28x28, .f32⟩
  | .hbm, ⟨1, _⟩ => ⟨S16x1024x14x14, .f32⟩
  | .hbm, ⟨2, _⟩ => ⟨S256x1536, .f32⟩
  | .hbm, ⟨3, _⟩ => ⟨S256, .f32⟩
  | .hbm, ⟨4, _⟩ => ⟨S2048x256, .f32⟩
  | .hbm, ⟨5, _⟩ => ⟨S1, .f32⟩
  | .hbm, ⟨6, _⟩ => ⟨S28x14, .f32⟩
  | .hbm, ⟨7, _⟩ => ⟨S16x512x784, .f32⟩
  | .hbm, ⟨8, _⟩ => ⟨S16x1024x196, .f32⟩
  | .hbm, ⟨9, _⟩ => ⟨S256x512, .f32⟩
  | .hbm, ⟨10, _⟩ => ⟨S256x1024, .f32⟩
  | .hbm, ⟨11, _⟩ => ⟨S28x1x14x1, .f32⟩
  | .hbm, ⟨12, _⟩ => ⟨S1x28x1x14, .f32⟩
  | .hbm, ⟨13, _⟩ => ⟨S28x28x14x14, .f32⟩
  | .hbm, ⟨14, _⟩ => ⟨S28x28x14x14, .f32⟩
  | .hbm, ⟨15, _⟩ => ⟨S28x28x14x14, .f32⟩
  | .hbm, ⟨16, _⟩ => ⟨S784x196, .f32⟩
  | .hbm, ⟨17, _⟩ => ⟨S_, .f32⟩
  | .hbm, ⟨18, _⟩ => ⟨S784x196, .f32⟩
  | .hbm, ⟨19, _⟩ => ⟨S784x196, .f32⟩
  | .hbm, ⟨20, _⟩ => ⟨S1x256, .f32⟩
  | .hbm, ⟨21, _⟩ => ⟨S1x1, .f32⟩
  | .hbm, ⟨22, _⟩ => ⟨S16x784x256, .f32⟩
  | .hbm, ⟨23, _⟩ => ⟨S16x1x784, .f32⟩
  | .hbm, ⟨24, _⟩ => ⟨S1x1, .f32⟩
  | .local _ .vmem, ⟨0, _⟩ => ⟨S1x512x784, .f32⟩
  | .local _ .vmem, ⟨1, _⟩ => ⟨S1x512x784, .f32⟩
  | .local _ .vmem, ⟨2, _⟩ => ⟨S1x1024x196, .f32⟩
  | .local _ .vmem, ⟨3, _⟩ => ⟨S1x1024x196, .f32⟩
  | .local _ .vmem, ⟨4, _⟩ => ⟨S256x512, .f32⟩
  | .local _ .vmem, ⟨5, _⟩ => ⟨S256x1024, .f32⟩
  | .local _ .vmem, ⟨6, _⟩ => ⟨S784x196, .f32⟩
  | .local _ .vmem, ⟨7, _⟩ => ⟨S2048x256, .f32⟩
  | .local _ .vmem, ⟨8, _⟩ => ⟨S1x256, .f32⟩
  | .local _ .vmem, ⟨9, _⟩ => ⟨S1x1, .f32⟩
  | .local _ .vmem, ⟨10, _⟩ => ⟨S1x784x256, .f32⟩
  | .local _ .vmem, ⟨11, _⟩ => ⟨S1x784x256, .f32⟩
  | .local _ .vmem, ⟨12, _⟩ => ⟨S1x1x784, .f32⟩
  | .local _ .vmem, ⟨13, _⟩ => ⟨S1x1x784, .f32⟩
  | .local _ .vmem, ⟨14, _⟩ => ⟨S1x1, .f32⟩
  | .local _ .vmem, ⟨15, _⟩ => ⟨S1x2048, .f32⟩
  | _, _ => ⟨S16x512x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev main_v9_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x196 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S784x196 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x784x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x784 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "loss_scale" => some ((125 / 4704 : ℝ) : EReal)
  | "ninth" => some ((1 / 9 : ℝ) : EReal)
  | _ => none
-- ==== ReferenceIdeal.lean ====
abbrev S16x512x28x28 : Shape := ⟨4, ![16, 512, 28, 28]⟩
abbrev S16x1024x14x14 : Shape := ⟨4, ![16, 1024, 14, 14]⟩
abbrev S256x1536 : Shape := ⟨2, ![256, 1536]⟩
abbrev S256 : Shape := ⟨1, ![256]⟩
abbrev S2048x256 : Shape := ⟨2, ![2048, 256]⟩
abbrev S1 : Shape := ⟨1, ![1]⟩
abbrev S_ : Shape := ⟨0, ![]⟩
abbrev S28 : Shape := ⟨1, ![28]⟩
abbrev S1x28 : Shape := ⟨2, ![1, 28]⟩
abbrev S14 : Shape := ⟨1, ![14]⟩
abbrev S14x1 : Shape := ⟨2, ![14, 1]⟩
abbrev S14x28 : Shape := ⟨2, ![14, 28]⟩
abbrev S16x1024x14x28 : Shape := ⟨4, ![16, 1024, 14, 28]⟩
abbrev S16x1024x28x28 : Shape := ⟨4, ![16, 1024, 28, 28]⟩
abbrev S16x1536x28x28 : Shape := ⟨4, ![16, 1536, 28, 28]⟩
abbrev S256x16x28x28 : Shape := ⟨4, ![256, 16, 28, 28]⟩
abbrev S16x256x28x28 : Shape := ⟨4, ![16, 256, 28, 28]⟩
abbrev S1x256x1x1 : Shape := ⟨4, ![1, 256, 1, 1]⟩
abbrev S16x28x28x256 : Shape := ⟨4, ![16, 28, 28, 256]⟩
abbrev S16x784x256 : Shape := ⟨3, ![16, 784, 256]⟩
abbrev S16x784 : Shape := ⟨2, ![16, 784]⟩
abbrev S16x784x1 : Shape := ⟨3, ![16, 784, 1]⟩
abbrev S2048 : Shape := ⟨1, ![2048]⟩
abbrev S1x1x2048 : Shape := ⟨3, ![1, 1, 2048]⟩
abbrev S16x784x2048 : Shape := ⟨3, ![16, 784, 2048]⟩
abbrev S16x784x3 : Shape := ⟨3, ![16, 784, 3]⟩
abbrev S16x1x784 : Shape := ⟨3, ![16, 1, 784]⟩
abbrev S16x784x6 : Shape := ⟨3, ![16, 784, 6]⟩
abbrev S1x1x1 : Shape := ⟨3, ![1, 1, 1]⟩
abbrev S1x1 : Shape := ⟨2, ![1, 1]⟩

abbrev nBuf : Space → Nat
  | .hbm => 166
  | .vmem => 0
  | .smem => 0
  | _ => 0

abbrev hbmTy0_0 (i : Nat) : BufTy := match i % 128 with
  | 0 => ⟨S16x512x28x28, .f32⟩
  | 1 => ⟨S16x1024x14x14, .f32⟩
  | 2 => ⟨S256x1536, .f32⟩
  | 3 => ⟨S256, .f32⟩
  | 4 => ⟨S2048x256, .f32⟩
  | 5 => ⟨S1, .f32⟩
  | 6 => ⟨S_, .f32⟩
  | 7 => ⟨S_, .f32⟩
  | 8 => ⟨S16x512x28x28, .f32⟩
  | 9 => ⟨S_, .f32⟩
  | 10 => ⟨S16x512x28x28, .f32⟩
  | 11 => ⟨S16x512x28x28, .f32⟩
  | 12 => ⟨S_, .f32⟩
  | 13 => ⟨S_, .f32⟩
  | 14 => ⟨S16x1024x14x14, .f32⟩
  | 15 => ⟨S_, .f32⟩
  | 16 => ⟨S16x1024x14x14, .f32⟩
  | 17 => ⟨S16x1024x14x14, .f32⟩
  | 18 => ⟨S28, .f32⟩
  | 19 => ⟨S_, .f32⟩
  | 20 => ⟨S28, .f32⟩
  | 21 => ⟨S28, .f32⟩
  | 22 => ⟨S_, .f32⟩
  | 23 => ⟨S28, .f32⟩
  | 24 => ⟨S28, .f32⟩
  | 25 => ⟨S_, .f32⟩
  | 26 => ⟨S28, .f32⟩
  | 27 => ⟨S28, .f32⟩
  | 28 => ⟨S1x28, .f32⟩
  | 29 => ⟨S14, .f32⟩
  | 30 => ⟨S14x1, .f32⟩
  | 31 => ⟨S14x28, .f32⟩
  | 32 => ⟨S14x28, .f32⟩
  | 33 => ⟨S14x28, .f32⟩
  | 34 => ⟨S14x28, .f32⟩
  | 35 => ⟨S_, .f32⟩
  | 36 => ⟨S14x28, .f32⟩
  | 37 => ⟨S14x28, .f32⟩
  | 38 => ⟨S_, .f32⟩
  | 39 => ⟨S14x28, .f32⟩
  | 40 => ⟨S14x28, .f32⟩
  | 41 => ⟨S_, .f32⟩
  | 42 => ⟨S28, .f32⟩
  | 43 => ⟨S1x28, .f32⟩
  | 44 => ⟨S14x28, .f32⟩
  | 45 => ⟨S14x28, .f32⟩
  | 46 => ⟨S16x1024x14x28, .f32⟩
  | 47 => ⟨S28, .f32⟩
  | 48 => ⟨S_, .f32⟩
  | 49 => ⟨S28, .f32⟩
  | 50 => ⟨S28, .f32⟩
  | 51 => ⟨S_, .f32⟩
  | 52 => ⟨S28, .f32⟩
  | 53 => ⟨S28, .f32⟩
  | 54 => ⟨S_, .f32⟩
  | 55 => ⟨S28, .f32⟩
  | 56 => ⟨S28, .f32⟩
  | 57 => ⟨S1x28, .f32⟩
  | 58 => ⟨S14, .f32⟩
  | 59 => ⟨S14x1, .f32⟩
  | 60 => ⟨S14x28, .f32⟩
  | 61 => ⟨S14x28, .f32⟩
  | 62 => ⟨S14x28, .f32⟩
  | 63 => ⟨S14x28, .f32⟩
  | 64 => ⟨S_, .f32⟩
  | 65 => ⟨S14x28, .f32⟩
  | 66 => ⟨S14x28, .f32⟩
  | 67 => ⟨S_, .f32⟩
  | 68 => ⟨S14x28, .f32⟩
  | 69 => ⟨S14x28, .f32⟩
  | 70 => ⟨S_, .f32⟩
  | 71 => ⟨S28, .f32⟩
  | 72 => ⟨S1x28, .f32⟩
  | 73 => ⟨S14x28, .f32⟩
  | 74 => ⟨S14x28, .f32⟩
  | 75 => ⟨S16x1024x28x28, .f32⟩
  | 76 => ⟨S16x1536x28x28, .f32⟩
  | 77 => ⟨S256x16x28x28, .f32⟩
  | 78 => ⟨S16x256x28x28, .f32⟩
  | 79 => ⟨S1x256x1x1, .f32⟩
  | 80 => ⟨S16x256x28x28, .f32⟩
  | 81 => ⟨S16x256x28x28, .f32⟩
  | 82 => ⟨S16x28x28x256, .f32⟩
  | 83 => ⟨S16x784x256, .f32⟩
  | 84 => ⟨S16x784x256, .f32⟩
  | 85 => ⟨S_, .f32⟩
  | 86 => ⟨S16x784, .f32⟩
  | 87 => ⟨S16x784x1, .f32⟩
  | 88 => ⟨S2048x256, .f32⟩
  | 89 => ⟨S_, .f32⟩
  | 90 => ⟨S2048, .f32⟩
  | 91 => ⟨S1x1x2048, .f32⟩
  | 92 => ⟨S16x784x2048, .f32⟩
  | 93 => ⟨S_, .f32⟩
  | 94 => ⟨S16x784x2048, .f32⟩
  | 95 => ⟨S16x784x2048, .f32⟩
  | 96 => ⟨S16x784x2048, .f32⟩
  | 97 => ⟨S16x784x2048, .f32⟩
  | 98 => ⟨S16x784x2048, .f32⟩
  | 99 => ⟨S16x784x2048, .f32⟩
  | 100 => ⟨S_, .f32⟩
  | 101 => ⟨S16x784x2048, .f32⟩
  | 102 => ⟨S16x784x2048, .f32⟩
  | 103 => ⟨S16x784x2048, .f32⟩
  | 104 => ⟨S16x784x2048, .f32⟩
  | 105 => ⟨S16x784x3, .f32⟩
  | 106 => ⟨S16x784x3, .i32⟩
  | 107 => ⟨S16x784x3, .f32⟩
  | 108 => ⟨S16x784x3, .f32⟩
  | 109 => ⟨S_, .f32⟩
  | 110 => ⟨S16x784, .f32⟩
  | 111 => ⟨S_, .f32⟩
  | 112 => ⟨S16x784, .f32⟩
  | 113 => ⟨S16x784, .f32⟩
  | 114 => ⟨S16x784x1, .f32⟩
  | 115 => ⟨S16x784x3, .f32⟩
  | 116 => ⟨S16x784x3, .f32⟩
  | 117 => ⟨S16x784x3, .f32⟩
  | 118 => ⟨S_, .f32⟩
  | 119 => ⟨S16x784, .f32⟩
  | 120 => ⟨S16x784x1, .f32⟩
  | 121 => ⟨S16x784x3, .f32⟩
  | 122 => ⟨S16x784x3, .f32⟩
  | 123 => ⟨S16x784x1, .f32⟩
  | 124 => ⟨S16x784, .f32⟩
  | 125 => ⟨S16x784x1, .f32⟩
  | 126 => ⟨S16x784, .f32⟩
  | 127 => ⟨S16x784, .f32⟩
  | _ => ⟨S16x512x28x28, .f32⟩

abbrev hbmTy0_1 (i : Nat) : BufTy := match i % 128 with
  | 0 => ⟨S16x1x784, .f32⟩
  | 1 => ⟨S16x784x2048, .f32⟩
  | 2 => ⟨S16x784x6, .f32⟩
  | 3 => ⟨S16x784x6, .i32⟩
  | 4 => ⟨S16x784x6, .f32⟩
  | 5 => ⟨S16x784x3, .f32⟩
  | 6 => ⟨S1, .f32⟩
  | 7 => ⟨S1x1x1, .f32⟩
  | 8 => ⟨S16x784x3, .f32⟩
  | 9 => ⟨S16x784x3, .f32⟩
  | 10 => ⟨S_, .f32⟩
  | 11 => ⟨S16x784x3, .f32⟩
  | 12 => ⟨S16x784x3, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S1, .f32⟩
  | 20 => ⟨S16x784x3, .f32⟩
  | 21 => ⟨S1x1x1, .f32⟩
  | 22 => ⟨S16x784x3, .f32⟩
  | 23 => ⟨S16x784x3, .f32⟩
  | 24 => ⟨S_, .f32⟩
  | 25 => ⟨S16x784x3, .f32⟩
  | 26 => ⟨S16x784x3, .f32⟩
  | 27 => ⟨S_, .f32⟩
  | 28 => ⟨S16x784x3, .f32⟩
  | 29 => ⟨S16x784x3, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S1x1, .f32⟩
  | _ => ⟨S16x512x28x28, .f32⟩

abbrev hbmTy (i : Nat) : BufTy := match i / 128 with
  | 0 => hbmTy0_0 i
  | 1 => hbmTy0_1 i
  | _ => ⟨S16x512x28x28, .f32⟩

abbrev bufTy : (tb : Table) → Fin (tcTables nBuf tb) → BufTy
  | .hbm, ⟨i, _⟩ => hbmTy i
  | _, _ => ⟨S16x512x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_cst_5 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_cst_10 : Ref sig .tc := ⟨.hbm, 51, rfl⟩
abbrev main_v34 : Ref sig .tc := ⟨.hbm, 52, rfl⟩
abbrev main_v35 : Ref sig .tc := ⟨.hbm, 53, rfl⟩
abbrev main_cst_11 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_12 : Ref sig .tc := ⟨.hbm, 64, rfl⟩
abbrev main_v45 : Ref sig .tc := ⟨.hbm, 65, rfl⟩
abbrev main_v46 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_15 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_16 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_17 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_18 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_values : Ref sig .tc := ⟨.hbm, 105, rfl⟩
abbrev main_indices : Ref sig .tc := ⟨.hbm, 106, rfl⟩
abbrev main_v79 : Ref sig .tc := ⟨.hbm, 107, rfl⟩
abbrev main_v80 : Ref sig .tc := ⟨.hbm, 108, rfl⟩
abbrev main_cst_19 : Ref sig .tc := ⟨.hbm, 109, rfl⟩
abbrev main_v81 : Ref sig .tc := ⟨.hbm, 110, rfl⟩
abbrev main_cst_20 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_21 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_values_22 : Ref sig .tc := ⟨.hbm, 130, rfl⟩
abbrev main_indices_23 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_call0_cst : Ref sig .tc := ⟨.hbm, 138, rfl⟩
abbrev main_call0_v0 : Ref sig .tc := ⟨.hbm, 139, rfl⟩
abbrev main_v105 : Ref sig .tc := ⟨.hbm, 140, rfl⟩
abbrev main_cst_24 : Ref sig .tc := ⟨.hbm, 141, rfl⟩
abbrev main_v106 : Ref sig .tc := ⟨.hbm, 142, rfl⟩
abbrev main_cst_25 : Ref sig .tc := ⟨.hbm, 143, rfl⟩
abbrev main_v107 : Ref sig .tc := ⟨.hbm, 144, rfl⟩
abbrev main_cst_26 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_27 : Ref sig .tc := ⟨.hbm, 152, rfl⟩
abbrev main_v114 : Ref sig .tc := ⟨.hbm, 153, rfl⟩
abbrev main_v115 : Ref sig .tc := ⟨.hbm, 154, rfl⟩
abbrev main_call1_cst : Ref sig .tc := ⟨.hbm, 155, rfl⟩
abbrev main_call1_v0 : Ref sig .tc := ⟨.hbm, 156, rfl⟩
abbrev main_v116 : Ref sig .tc := ⟨.hbm, 157, rfl⟩
abbrev main_cst_28 : Ref sig .tc := ⟨.hbm, 158, rfl⟩
abbrev main_v117 : Ref sig .tc := ⟨.hbm, 159, rfl⟩
abbrev main_cst_29 : Ref sig .tc := ⟨.hbm, 160, rfl⟩
abbrev main_v118 : Ref sig .tc := ⟨.hbm, 161, rfl⟩
abbrev main_cst_30 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩

abbrev nD : Nat := 1
abbrev τ : Topo := Topo.v7x

variable {F : FTy → Type} [FloatOps F]
-- ==== Proof.Finite.lean ====
module
public import proofs.«01_k».proof.Defs
public import proofs.«01_k».proof.Proof.Gen.Pre_finite
public import Idealize.ShloMosaic.Lib.ReduceAll
public import Idealize.ShloMosaic.Lib.Pointwise

/-! # The precondition: every entry of the arguments but the radius is a real number -/

@[expose] public section

set_option maxRecDepth 8192

noncomputable section

namespace Cert.Finite

open Cert Idealize.ShloMosaic Idealize.ShloMosaic.TcCoe Cert.Pre_finite

/-- Both conjuncts of a one-bit conjunction. -/
theorem both {a b : BitVec 1} (h : IntOp.andi a b = 1#1) : a = 1#1 ∧ b = 1#1 := by
  revert a b
  decide

/-- An extended real whose magnitude is below the top is a real. -/
theorem real_of_lt {s : Shape} (x : FVec Ideal s .f32) (y : FVec Ideal s .f32) (i : s.Idx) (hy : y i = ⊤)
    (h : cmpf .olt (Host.absf x) y i = 1#1) : ∃ r : ℝ, x i = (r : EReal) := by
  change Ideal.cmp .olt (max (x i) (-(x i))) (y i) = 1#1 at h
  rw [hy] at h
  have l : max (x i) (-(x i)) < ⊤ := by
    by_contra n
    simp [Ideal.cmp, n] at h
  obtain ⟨l1, l2⟩ := max_lt_iff.mp l
  refine ⟨(x i).toReal, (EReal.coe_toReal (ne_of_lt l1) ?_).symm⟩
  intro e
  rw [e] at l2
  simp at l2

/-- The word of the top. -/
theorem top : Ideal.ofBits .f32 0x7F800000#32 = ⊤ := by
  simp [Ideal.ofBits, Ideal.ieee]

variable [Facts]

/-- Every entry of the arguments but the radius is a real. -/
theorem entries (x0 : FVec Ideal S16x512x28x28 .f32) (x1 : FVec Ideal S16x1024x14x14 .f32) (x2 : FVec Ideal S256x1536 .f32)
    (x3 : FVec Ideal S256 .f32) (x4 : FVec Ideal S2048x256 .f32) (x5 : FVec Ideal S1 .f32)
    (h : fn (F := Ideal) x0 x1 x2 x3 x4 x5 = fun _ => 1#1) :
    (∀ i, ∃ r : ℝ, x0 i = r) ∧ (∀ i, ∃ r : ℝ, x1 i = r) ∧ (∀ i, ∃ r : ℝ, x2 i = r) ∧ (∀ i, ∃ r : ℝ, x3 i = r)
      ∧ ∀ i, ∃ r : ℝ, x4 i = r := by
  have e := congrFun h ix0
  obtain ⟨e, e4⟩ := both e
  obtain ⟨e, e3⟩ := both e
  obtain ⟨e, e2⟩ := both e
  obtain ⟨e0, e1⟩ := both e
  exact ⟨fun i => real_of_lt x0 _ i top (Host.reduce_andi_all _ _ _ _ _ e0 i), fun i => real_of_lt x1 _ i top (Host.reduce_andi_all _ _ _ _ _ e1 i),
    fun i => real_of_lt x2 _ i top (Host.reduce_andi_all _ _ _ _ _ e2 i), fun i => real_of_lt x3 _ i top (Host.reduce_andi_all _ _ _ _ _ e3 i),
    fun i => real_of_lt x4 _ i top (Host.reduce_andi_all _ _ _ _ _ e4 i)⟩

end Cert.Finite
end
-- ==== Proof.Net.lean ====
module
public import Idealize.ShloMosaic.Lib.Pointwise

/-! # The selection network, over any two operations

Batcher's odd-even merges, over a type `α` with two operations `mn` and `mx`. What a wire of the network holds is
described by a predicate `P` on `α` for which `mn` is "or" and `mx` is "and" (`Splits`), as `· ≤ t` is for the minimum
and the maximum of a linear order: a group of wires *counts* `c` when its `k`-th wire satisfies `P` exactly for `k < c`.
Merging two groups adds their counts. -/

@[expose] public section

namespace Cert.Net

/-- Two wires. -/
structure Two (α : Type*) where
  (w0 w1 : α)

/-- Four wires. -/
structure Four (α : Type*) where
  (w0 w1 w2 w3 : α)

/-- The first seven wires of eight. -/
structure Seven (α : Type*) where
  (w0 w1 w2 w3 w4 w5 w6 : α)

/-- Six wires. -/
structure Six (α : Type*) where
  (w0 w1 w2 w3 w4 w5 : α)

variable {α β : Type*}

/-- One function applied to each of the six wires. -/
def Six.map (f : α → β) (a : Six α) : Six β := ⟨f a.w0, f a.w1, f a.w2, f a.w3, f a.w4, f a.w5⟩

/-- The wire with a given number. -/
def Six.get (a : Six α) : Fin 6 → α := ![a.w0, a.w1, a.w2, a.w3, a.w4, a.w5]

section Networks

variable (mn mx : α → α → α)

/-- One comparator. -/
def sort2 (x y : α) : Two α := ⟨mn x y, mx x y⟩

/-- Two sorted pairs merged. -/
def merge22 (a b : Two α) : Four α :=
  ⟨mn a.w0 b.w0, mn (mn a.w1 b.w1) (mx a.w0 b.w0), mx (mn a.w1 b.w1) (mx a.w0 b.w0), mx a.w1 b.w1⟩

/-- Two sorted fours merged: the even wires, the odd wires, then one row of comparators. The last wire is left out. -/
def merge44 (a b : Four α) : Seven α :=
  let e := merge22 mn mx ⟨a.w0, a.w2⟩ ⟨b.w0, b.w2⟩
  let o := merge22 mn mx ⟨a.w1, a.w3⟩ ⟨b.w1, b.w3⟩
  ⟨e.w0, mn o.w0 e.w1, mx o.w0 e.w1, mn o.w1 e.w2, mx o.w1 e.w2, mn o.w2 e.w3, mx o.w2 e.w3⟩

/-- The first four wires of the merge of two sorted fours. -/
def merge44' (a b : Four α) : Four α :=
  let e := merge22 mn mx ⟨a.w0, a.w2⟩ ⟨b.w0, b.w2⟩
  let o := merge22 mn mx ⟨a.w1, a.w3⟩ ⟨b.w1, b.w3⟩
  ⟨e.w0, mn o.w0 e.w1, mx o.w0 e.w1, mn o.w1 e.w2⟩

/-- The first four wires of the merge of two sorted threes. -/
def merge33 (a0 a1 a2 b0 b1 b2 : α) : Four α :=
  let e := merge22 mn mx ⟨a0, a2⟩ ⟨b0, b2⟩
  let o := sort2 mn mx a1 b1
  ⟨e.w0, mn o.w0 e.w1, mx o.w0 e.w1, mn o.w1 e.w2⟩

/-- The last step of a merge that keeps six wires: the merged even wires `e` and the merged odd wires `o` combined. -/
def combine (e o : Four α) : Six α :=
  ⟨e.w0, mn o.w0 e.w1, mx o.w0 e.w1, mn o.w1 e.w2, mx o.w1 e.w2, mn o.w2 e.w3⟩

/-- Two sorted eights merged, six wires kept (the eighth wire of each reaches none of them). -/
def merge88 (a b : Seven α) : Six α :=
  combine mn mx (merge44' mn mx ⟨a.w0, a.w2, a.w4, a.w6⟩ ⟨b.w0, b.w2, b.w4, b.w6⟩)
    (merge33 mn mx a.w1 a.w3 a.w5 b.w1 b.w3 b.w5)

/-- Two sorted sixes merged, six wires kept. -/
def merge66 (a b : Six α) : Six α :=
  combine mn mx (merge33 mn mx a.w0 a.w2 a.w4 b.w0 b.w2 b.w4) (merge33 mn mx a.w1 a.w3 a.w5 b.w1 b.w3 b.w5)

/-- Four wires sorted. -/
def sort4 (x0 x1 x2 x3 : α) : Four α := merge22 mn mx (sort2 mn mx x0 x1) (sort2 mn mx x2 x3)

/-- The six least of sixteen wires, in order. -/
def sort16 (x : Fin 16 → α) : Six α :=
  merge88 mn mx
    (merge44 mn mx (sort4 mn mx (x 0) (x 1) (x 2) (x 3)) (sort4 mn mx (x 4) (x 5) (x 6) (x 7)))
    (merge44 mn mx (sort4 mn mx (x 8) (x 9) (x 10) (x 11)) (sort4 mn mx (x 12) (x 13) (x 14) (x 15)))

end Networks

section Counts

variable (P : α → Prop)

/-- `mn` is "or" and `mx` is "and" for `P`. -/
structure Splits (mn mx : α → α → α) : Prop where
  mn_iff : ∀ a b, P (mn a b) ↔ P a ∨ P b
  mx_iff : ∀ a b, P (mx a b) ↔ P a ∧ P b

/-- The pair counts `c`. -/
def Two.Counts (a : Two α) (c : ℕ) : Prop := (P a.w0 ↔ 0 < c) ∧ (P a.w1 ↔ 1 < c)

/-- The four wires count `c`. -/
def Four.Counts (a : Four α) (c : ℕ) : Prop :=
  (P a.w0 ↔ 0 < c) ∧ (P a.w1 ↔ 1 < c) ∧ (P a.w2 ↔ 2 < c) ∧ (P a.w3 ↔ 3 < c)

/-- The seven wires count `c`. -/
def Seven.Counts (a : Seven α) (c : ℕ) : Prop :=
  (P a.w0 ↔ 0 < c) ∧ (P a.w1 ↔ 1 < c) ∧ (P a.w2 ↔ 2 < c) ∧ (P a.w3 ↔ 3 < c) ∧ (P a.w4 ↔ 4 < c)
    ∧ (P a.w5 ↔ 5 < c) ∧ (P a.w6 ↔ 6 < c)

/-- The six wires count `c`. -/
def Six.Counts (a : Six α) (c : ℕ) : Prop :=
  (P a.w0 ↔ 0 < c) ∧ (P a.w1 ↔ 1 < c) ∧ (P a.w2 ↔ 2 < c) ∧ (P a.w3 ↔ 3 < c) ∧ (P a.w4 ↔ 4 < c) ∧ (P a.w5 ↔ 5 < c)

open Classical in
/-- What one wire adds to a count. -/
noncomputable def one (x : α) : ℕ := if P x then 1 else 0

theorem one_le (x : α) : one P x ≤ 1 := by unfold one; split <;> simp
theorem one_pos (x : α) : 0 < one P x ↔ P x := by unfold one; split <;> simp_all

variable {P} {mn mx : α → α → α}

/-- Two wires behind a comparator count what the two wires add. -/
theorem sort2_counts (h : Splits P mn mx) (x y : α) : (sort2 mn mx x y).Counts P (one P x + one P y) := by
  have := one_le P x; have := one_le P y
  simp only [sort2, Two.Counts, h.mn_iff, h.mx_iff, ← one_pos P]
  omega

/-- Merging two pairs adds their counts. -/
theorem merge22_counts (h : Splits P mn mx) {a b : Two α} {c d : ℕ} (hc : c ≤ 2) (hd : d ≤ 2)
    (ha : a.Counts P c) (hb : b.Counts P d) : (merge22 mn mx a b).Counts P (c + d) := by
  obtain ⟨a0, a1⟩ := ha; obtain ⟨b0, b1⟩ := hb
  simp only [merge22, Four.Counts, h.mn_iff, h.mx_iff, a0, a1, b0, b1]
  omega

/-- Merging two fours adds their counts. -/
theorem merge44_counts (h : Splits P mn mx) {a b : Four α} {c d : ℕ} (hc : c ≤ 4) (hd : d ≤ 4)
    (ha : a.Counts P c) (hb : b.Counts P d) : (merge44 mn mx a b).Counts P (c + d) := by
  obtain ⟨a0, a1, a2, a3⟩ := ha; obtain ⟨b0, b1, b2, b3⟩ := hb
  obtain ⟨e0, e1, e2, e3⟩ := merge22_counts h (a := ⟨a.w0, a.w2⟩) (b := ⟨b.w0, b.w2⟩) (c := (c + 1) / 2)
    (d := (d + 1) / 2) (by omega) (by omega) ⟨by rw [a0]; omega, by rw [a2]; omega⟩ ⟨by rw [b0]; omega, by rw [b2]; omega⟩
  obtain ⟨o0, o1, o2, o3⟩ := merge22_counts h (a := ⟨a.w1, a.w3⟩) (b := ⟨b.w1, b.w3⟩) (c := c / 2)
    (d := d / 2) (by omega) (by omega) ⟨by rw [a1]; omega, by rw [a3]; omega⟩ ⟨by rw [b1]; omega, by rw [b3]; omega⟩
  simp only [merge44, Seven.Counts, h.mn_iff, h.mx_iff, e0, e1, e2, e3, o0, o1, o2]
  omega

/-- The first four wires of the merge of two fours: counts add. -/
theorem merge44'_counts (h : Splits P mn mx) {a b : Four α} {c d : ℕ} (hc : c ≤ 4) (hd : d ≤ 4)
    (ha : a.Counts P c) (hb : b.Counts P d) : (merge44' mn mx a b).Counts P (c + d) := by
  obtain ⟨h0, h1, h2, h3, -⟩ := merge44_counts h hc hd ha hb
  exact ⟨h0, h1, h2, h3⟩

/-- The first four wires of the merge of two threes: counts add. -/
theorem merge33_counts (h : Splits P mn mx) {a0 a1 a2 b0 b1 b2 : α} {c d : ℕ} (hc : c ≤ 3) (hd : d ≤ 3)
    (h0 : P a0 ↔ 0 < c) (h1 : P a1 ↔ 1 < c) (h2 : P a2 ↔ 2 < c)
    (k0 : P b0 ↔ 0 < d) (k1 : P b1 ↔ 1 < d) (k2 : P b2 ↔ 2 < d) :
    (merge33 mn mx a0 a1 a2 b0 b1 b2).Counts P (c + d) := by
  obtain ⟨e0, e1, e2, -⟩ := merge22_counts h (a := ⟨a0, a2⟩) (b := ⟨b0, b2⟩) (c := (c + 1) / 2)
    (d := (d + 1) / 2) (by omega) (by omega) ⟨by rw [h0]; omega, by rw [h2]; omega⟩ ⟨by rw [k0]; omega, by rw [k2]; omega⟩
  simp only [merge33, sort2, Four.Counts, h.mn_iff, h.mx_iff, e0, e1, e2, h1, k1]
  omega

/-- The last step, for even and odd counts at most two apart. (The fourth odd wire is not read.) -/
theorem combine_counts (h : Splits P mn mx) {e o : Four α} {c d : ℕ} (hle : d ≤ c) (hle' : c ≤ d + 2)
    (he : e.Counts P c) (o0 : P o.w0 ↔ 0 < d) (o1 : P o.w1 ↔ 1 < d) (o2 : P o.w2 ↔ 2 < d) :
    (combine mn mx e o).Counts P (c + d) := by
  obtain ⟨e0, e1, e2, e3⟩ := he
  simp only [combine, Six.Counts, h.mn_iff, h.mx_iff, e0, e1, e2, e3, o0, o1, o2]
  omega

/-- Six wires that count `c` count every number that agrees with `c` below six. -/
theorem Six.Counts.congr {a : Six α} {c d : ℕ} (ha : a.Counts P c) (hcd : min c 6 = min d 6) : a.Counts P d := by
  obtain ⟨a0, a1, a2, a3, a4, a5⟩ := ha
  refine ⟨?_, ?_, ?_, ?_, ?_, ?_⟩ <;> simp only [a0, a1, a2, a3, a4, a5] <;> omega

/-- Merging two eights adds their counts. -/
theorem merge88_counts (h : Splits P mn mx) {a b : Seven α} {c d : ℕ} (hc : c ≤ 8) (hd : d ≤ 8)
    (ha : a.Counts P c) (hb : b.Counts P d) : (merge88 mn mx a b).Counts P (c + d) := by
  obtain ⟨a0, a1, a2, a3, a4, a5, a6⟩ := ha; obtain ⟨b0, b1, b2, b3, b4, b5, b6⟩ := hb
  have he := merge44'_counts h (a := ⟨a.w0, a.w2, a.w4, a.w6⟩) (b := ⟨b.w0, b.w2, b.w4, b.w6⟩) (c := (c + 1) / 2)
    (d := (d + 1) / 2) (by omega) (by omega)
    ⟨by rw [a0]; omega, by rw [a2]; omega, by rw [a4]; omega, by rw [a6]; omega⟩
    ⟨by rw [b0]; omega, by rw [b2]; omega, by rw [b4]; omega, by rw [b6]; omega⟩
  obtain ⟨o0, o1, o2, -⟩ := merge33_counts h (a0 := a.w1) (a1 := a.w3) (a2 := a.w5) (b0 := b.w1) (b1 := b.w3)
    (b2 := b.w5) (c := min (c / 2) 3) (d := min (d / 2) 3) (by omega) (by omega)
    (by rw [a1]; omega) (by rw [a3]; omega) (by rw [a5]; omega) (by rw [b1]; omega) (by rw [b3]; omega)
    (by rw [b5]; omega)
  have := combine_counts h (d := c / 2 + d / 2) (by omega) (by omega) he (o0.trans (by omega)) (o1.trans (by omega))
    (o2.trans (by omega))
  exact this.congr (by omega)

/-- Merging two sixes adds their counts. -/
theorem merge66_counts (h : Splits P mn mx) {a b : Six α} {c d : ℕ}
    (ha : a.Counts P c) (hb : b.Counts P d) : (merge66 mn mx a b).Counts P (c + d) := by
  obtain ⟨a0, a1, a2, a3, a4, a5⟩ := ha; obtain ⟨b0, b1, b2, b3, b4, b5⟩ := hb
  have he := merge33_counts h (a0 := a.w0) (a1 := a.w2) (a2 := a.w4) (b0 := b.w0) (b1 := b.w2)
    (b2 := b.w4) (c := (min c 6 + 1) / 2) (d := (min d 6 + 1) / 2) (by omega) (by omega)
    (by rw [a0]; omega) (by rw [a2]; omega) (by rw [a4]; omega) (by rw [b0]; omega) (by rw [b2]; omega)
    (by rw [b4]; omega)
  obtain ⟨o0, o1, o2, -⟩ := merge33_counts h (a0 := a.w1) (a1 := a.w3) (a2 := a.w5) (b0 := b.w1) (b1 := b.w3)
    (b2 := b.w5) (c := min c 6 / 2) (d := min d 6 / 2) (by omega) (by omega)
    (by rw [a1]; omega) (by rw [a3]; omega) (by rw [a5]; omega) (by rw [b1]; omega) (by rw [b3]; omega)
    (by rw [b5]; omega)
  exact (combine_counts h (by omega) (by omega) he o0 o1 o2).congr (by omega)

/-- Four wires sorted count what the four add. -/
theorem sort4_counts (h : Splits P mn mx) (x0 x1 x2 x3 : α) :
    (sort4 mn mx x0 x1 x2 x3).Counts P (one P x0 + one P x1 + (one P x2 + one P x3)) := by
  have := one_le P x0; have := one_le P x1; have := one_le P x2; have := one_le P x3
  exact merge22_counts h (by omega) (by omega) (sort2_counts h _ _) (sort2_counts h _ _)

/-- The six least of sixteen count how many of the sixteen satisfy `P`. -/
theorem sort16_counts (h : Splits P mn mx) (x : Fin 16 → α) :
    (sort16 mn mx x).Counts P (∑ k, one P (x k)) := by
  have h1 := one_le P
  have key := merge88_counts h (by linarith [h1 (x 0), h1 (x 1), h1 (x 2), h1 (x 3), h1 (x 4), h1 (x 5), h1 (x 6), h1 (x 7)])
    (by linarith [h1 (x 8), h1 (x 9), h1 (x 10), h1 (x 11), h1 (x 12), h1 (x 13), h1 (x 14), h1 (x 15)])
    (merge44_counts h (by linarith [h1 (x 0), h1 (x 1), h1 (x 2), h1 (x 3)])
      (by linarith [h1 (x 4), h1 (x 5), h1 (x 6), h1 (x 7)])
      (sort4_counts h (x 0) (x 1) (x 2) (x 3)) (sort4_counts h (x 4) (x 5) (x 6) (x 7)))
    (merge44_counts h (by linarith [h1 (x 8), h1 (x 9), h1 (x 10), h1 (x 11)])
      (by linarith [h1 (x 12), h1 (x 13), h1 (x 14), h1 (x 15)])
      (sort4_counts h (x 8) (x 9) (x 10) (x 11)) (sort4_counts h (x 12) (x 13) (x 14) (x 15)))
  refine Six.Counts.congr key (congrArg (min · 6) ?_)
  simp only [Fin.sum_univ_succ, Fin.sum_univ_zero, Fin.isValue, Fin.succ_zero_eq_one, Fin.succ_one_eq_two]
  simp only [add_zero, ← add_assoc]
  rfl

end Counts

end Cert.Net
-- ==== Proof.Select.lean ====
module
public import proofs.«01_k».proof.Proof.Net
public import proofs.«01_k».proof.Proof.Gen.KernelIdeal.Skeleton

/-! # The kernel's selection, as the network of `Net.lean`

The kernel selects the six least of 2048 values per row with minima and maxima of whole arrays: sixteen column blocks
of 128 are sorted against each other in every lane, then the array is merged with itself rolled by half its lanes, by a
quarter, and so on down to one lane. This module names these steps and the results the kernel forms from the six
selected rows. -/

@[expose] public section

noncomputable section

namespace Cert.KernelIdeal.Select

open Idealize.ShloMosaic Cert.KernelIdeal Cert.KernelIdeal.Gen Cert.Net

variable {F : FTy → Type} [FloatOps F] [Named F]

/-- The sixteen column blocks of the array of values. -/
def blocks (v : FVec F S784x2048 .f32) : Fin 16 → FVec F S784x128 .f32 :=
  ![k0_pay13 v, k0_pay14 v, k0_pay15 v, k0_pay16 v, k0_pay17 v, k0_pay18 v, k0_pay19 v, k0_pay20 v,
    k0_pay21 v, k0_pay22 v, k0_pay23 v, k0_pay24 v, k0_pay25 v, k0_pay26 v, k0_pay27 v, k0_pay28 v]

/-- The six least of the sixteen blocks, in every lane. -/
def lanes (v : FVec F S784x2048 .f32) : Six (FVec F S784x128 .f32) := sort16 minimumf maximumf (blocks v)

/-- The six wires merged with themselves, rolled along the 128 columns. -/
def rollCols (b : BitVec 32) (w : Six (FVec F S784x128 .f32)) : Six (FVec F S784x128 .f32) :=
  merge66 minimumf maximumf w (w.map fun x => dynamicRotate 1 b none x rotates_S784x128_d1)

/-- The first 32 columns, as rows. -/
def turn (w : Six (FVec F S784x128 .f32)) : Six (FVec F S32x784 .f32) :=
  w.map fun x => transpose S32x784 [1, 0] (extractStridedSlice S784x32 ![0, 0] x slices_S784x128_o0_0_S784x32)
    transposes_S784x32_p1_0_S32x784

/-- The six wires merged with themselves, rolled along the 32 rows. -/
def rollRows (b : BitVec 32) (w : Six (FVec F S32x784 .f32)) : Six (FVec F S32x784 .f32) :=
  merge66 minimumf maximumf w (w.map fun x => dynamicRotate 0 b none x rotates_S32x784_d0)

/-- The merges along the columns. -/
def cols (v : FVec F S784x2048 .f32) : Six (FVec F S784x128 .f32) := rollCols 96#32 (rollCols 64#32 (lanes v))

/-- The merges along the rows. -/
def rows (w : Six (FVec F S32x784 .f32)) : Six (FVec F S32x784 .f32) :=
  rollRows 31#32 (rollRows 30#32 (rollRows 28#32 (rollRows 24#32 (rollRows 16#32 w))))

/-- The six selected rows: the first row of each wire. -/
def least (v : FVec F S784x2048 .f32) : Six (FVec F S1x784 .f32) :=
  (rows (turn (cols v))).map fun x => extractStridedSlice S1x784 ![0, 0] x slices_S32x784_o0_0_S1x784

/-- The six selected rows with the squared norms added: the six least squared distances. -/
def nearest (v : FVec F S784x2048 .f32) (en : FVec F S784x1 .f32) : Six (FVec F S1x784 .f32) :=
  (least v).map fun x => addf x (transpose S1x784 [1, 0] en transposes_S784x1_p1_0_S1x784)

/-- The distance of a squared distance: the root of what is at least the smallest allowed. -/
def root (x : FVec F S1x784 .f32) : FVec F S1x784 .f32 :=
  sqrt (maximumf x (broadcast S1x784 (Scalar.ofBits .f32 0x2B8CBCCC#32)))

/-- The score of one image, from its six least squared distances. -/
def score (d : Six (FVec F S1x784 .f32)) : FVec F S1x1x784 .f32 :=
  shapeCast S1x1x784
    (mulf (divf (broadcast S1x784 (Scalar.ofBits .f32 0x3F800000#32))
        (addf (addf (broadcast S1x784 (Scalar.ofBits .f32 0x3F800000#32)) (exp (subf (root d.w0) (root d.w1))))
          (exp (subf (root d.w0) (root d.w2)))))
      (root d.w0)) shapeCasts_S1x784_S1x1x784

/-- What one image adds to the loss. -/
def loss (d : Six (FVec F S1x784 .f32)) (r : Vec F S1x1 .f32) : F .f32 :=
  k0_pay244 d.w0 d.w1 d.w2 d.w3 d.w4 d.w5 (k0_pay242 r r) (k0_pay243 r r)

end Cert.KernelIdeal.Select

end
-- ==== Proof.KernelRun.lean ====
module
public import proofs.«01_k».proof.Proof.Select
public import proofs.«01_k».proof.Proof.Gen.KernelIdeal.Value
public import Idealize.ShloMosaic.Lib.Tactic

/-! # What the kernel's body leaves in its outputs at one grid point -/

@[expose] public section

noncomputable section

namespace Cert.KernelIdeal.Run

open Idealize.ShloMosaic Idealize.ShloMosaic.TcCoe Cert.KernelIdeal Cert.KernelIdeal.Gen Cert.Net

variable {F : FTy → Type} [FloatOps F] [Named F]

theorem hz : (![0, 0] : Fin 2 → Nat) = fun _ => 0 := funext fun a => by fin_cases a <;> rfl
theorem hz' : (![0, 0, 0] : Fin 3 → Nat) = fun _ => 0 := funext fun a => by fin_cases a <;> rfl

/-- The embedding of one image, from the input blocks: pooled and projected first input, projected and upsampled second
    input, bias. -/
def emb (x0 : Vec F S1x512x784 .f32) (x1 : Vec F S1x1024x196 .f32) (x2 : Vec F S256x512 .f32) (x3 : Vec F S256x1024 .f32)
    (x4 : Vec F S784x196 .f32) (x6 : Vec F S1x256 .f32) : FVec F S784x256 .f32 :=
  k0_pay8 (k0_pay3 x0 x2) (k0_pay4 x1 x3) k0_pay6 k0_pay7 x4 x6

/-- The squared distances to the centroids, less the squared norm of the embedding. -/
def rest (x0 : Vec F S1x512x784 .f32) (x1 : Vec F S1x1024x196 .f32) (x2 : Vec F S256x512 .f32) (x3 : Vec F S256x1024 .f32)
    (x4 : Vec F S784x196 .f32) (x5 : Vec F S2048x256 .f32) (x6 : Vec F S1x256 .f32) (cn : Vec F S1x2048 .f32) :
    FVec F S784x2048 .f32 :=
  k0_pay10 (k0_pay3 x0 x2) (k0_pay4 x1 x3) k0_pay6 k0_pay7 x4 x6 x5 cn

/-- The squared norm of the embedding. -/
def norm (x0 : Vec F S1x512x784 .f32) (x1 : Vec F S1x1024x196 .f32) (x2 : Vec F S256x512 .f32) (x3 : Vec F S256x1024 .f32)
    (x4 : Vec F S784x196 .f32) (x6 : Vec F S1x256 .f32) : FVec F S784x1 .f32 :=
  k0_pay12 (k0_pay11 (k0_pay3 x0 x2) (k0_pay4 x1 x3) k0_pay6 k0_pay7 x4 x6)

/-- The six least squared distances of one image. -/
def six (x0 : Vec F S1x512x784 .f32) (x1 : Vec F S1x1024x196 .f32) (x2 : Vec F S256x512 .f32) (x3 : Vec F S256x1024 .f32)
    (x4 : Vec F S784x196 .f32) (x5 : Vec F S2048x256 .f32) (x6 : Vec F S1x256 .f32) (cn : Vec F S1x2048 .f32) :
    Six (FVec F S1x784 .f32) :=
  Select.nearest (rest x0 x1 x2 x3 x4 x5 x6 cn) (norm x0 x1 x2 x3 x4 x6)

section Point

variable (c : Dev nD) (i : grid0.Coords)
  (arg1 : Memref sig .tc .vmem S1x512x784 .f32) (harg1 : arg1.IsWhole) (arg2 : Memref sig .tc .vmem S1x1024x196 .f32) (harg2 : arg2.IsWhole)
  (arg3 : Memref sig .tc .vmem S256x512 .f32) (harg3 : arg3.IsWhole) (arg4 : Memref sig .tc .vmem S256x1024 .f32) (harg4 : arg4.IsWhole)
  (arg5 : Memref sig .tc .vmem S784x196 .f32) (harg5 : arg5.IsWhole) (arg6 : Memref sig .tc .vmem S2048x256 .f32) (harg6 : arg6.IsWhole)
  (arg7 : Memref sig .tc .vmem S1x256 .f32) (harg7 : arg7.IsWhole) (arg8 : Memref sig .tc .vmem S1x1 .f32) (harg8 : arg8.IsWhole)
  (arg9 : Memref sig .tc .vmem S1x784x256 .f32) (harg9 : arg9.IsWhole) (arg10 : Memref sig .tc .vmem S1x1x784 .f32) (harg10 : arg10.IsWhole)
  (arg11 : Memref sig .tc .vmem S1x1 .f32) (harg11 : arg11.IsWhole) (arg12 : Memref sig .tc .vmem S1x2048 .f32) (harg12 : arg12.IsWhole)
  (x0 : Vec F S1x512x784 .f32) (x1 : Vec F S1x1024x196 .f32) (x2 : Vec F S256x512 .f32) (x3 : Vec F S256x1024 .f32)
  (x4 : Vec F S784x196 .f32) (x5 : Vec F S2048x256 .f32) (x6 : Vec F S1x256 .f32) (x7 : Vec F S1x1 .f32)
  (xo10 : Vec F S1x1 .f32) (xs0 : Vec F S1x2048 .f32)

/-- Later points: the values that are selected from. -/
theorem rest_B : (kernelRun0_B.sl.r_2 c arg1 harg1 arg2 harg2 arg3 harg3 arg4 harg4 arg5 harg5 arg6 harg6 arg7 harg7 arg12 harg12 x0 x1 x2 x3 x4 x5 x6 xs0)
      = rest x0 x1 x2 x3 x4 x5 x6 xs0 := by
  unfold kernelRun0_B.sl.r_2 kernelRun0_B.sl.r kernelRun0_B.sl.r_1
  simp only [View.readAt_eq_ld, harg1.read_unread, harg2.read_unread, harg3.read_unread, harg4.read_unread,
    harg5.read_unread, harg6.read_unread, harg7.read_unread, harg12.read_unread,
    View.ld_unit_zero (S := S1x512x784) hz', View.ld_unit_zero (S := S1x1024x196) hz', View.ld_unit_zero (S := S256x512) hz,
    View.ld_unit_zero (S := S256x1024) hz, View.ld_unit_zero (S := S784x196) hz, View.ld_unit_zero (S := S2048x256) hz,
    View.ld_unit_zero (S := S1x256) hz, View.ld_unit_zero (S := S1x2048) hz]
  rfl

/-- Later points: the squared norms. -/
theorem norm_B : (kernelRun0_B.sl.r_4 c arg1 harg1 arg2 harg2 arg3 harg3 arg4 harg4 arg5 harg5 arg7 harg7 x0 x1 x2 x3 x4 x6)
      = norm x0 x1 x2 x3 x4 x6 := by
  unfold kernelRun0_B.sl.r_4 kernelRun0_B.sl.r_3 kernelRun0_B.sl.r kernelRun0_B.sl.r_1
  simp only [View.readAt_eq_ld, harg1.read_unread, harg2.read_unread, harg3.read_unread, harg4.read_unread,
    harg5.read_unread, harg7.read_unread,
    View.ld_unit_zero (S := S1x512x784) hz', View.ld_unit_zero (S := S1x1024x196) hz', View.ld_unit_zero (S := S256x512) hz,
    View.ld_unit_zero (S := S256x1024) hz, View.ld_unit_zero (S := S784x196) hz,
    View.ld_unit_zero (S := S1x256) hz]
  rfl

/-- Later points: the selection, in the steps of the body. -/
theorem rows_B : Select.rows (Select.turn (Select.cols (kernelRun0_B.sl.r_2 c arg1 harg1 arg2 harg2 arg3 harg3 arg4 harg4 arg5 harg5 arg6 harg6 arg7 harg7 arg12 harg12 x0 x1 x2 x3 x4 x5 x6 xs0)))
      = (⟨(kernelRun0_B.sl.r_55 c arg1 harg1 arg2 harg2 arg3 harg3 arg4 harg4 arg5 harg5 arg6 harg6 arg7 harg7 arg12 harg12 x0 x1 x2 x3 x4 x5 x6 xs0),
      (minimumf (kernelRun0_B.sl.r_59 c arg1 harg1 arg2 harg2 arg3 harg3 arg4 harg4 arg5 harg5 arg6 harg6 arg7 harg7 arg12 harg12 x0 x1 x2 x3 x4 x5 x6 xs0) (kernelRun0_B.sl.r_56 c arg1 harg1 arg2 harg2 arg3 harg3 arg4 harg4 arg5 harg5 arg6 harg6 arg7 harg7 arg12 harg12 x0 x1 x2 x3 x4 x5 x6 xs0)),
      (maximumf (kernelRun0_B.sl.r_59 c arg1 harg1 arg2 harg2 arg3 harg3 arg4 harg4 arg5 harg5 arg6 harg6 arg7 harg7 arg12 harg12 x0 x1 x2 x3 x4 x5 x6 xs0) (kernelRun0_B.sl.r_56 c arg1 harg1 arg2 harg2 arg3 harg3 arg4 harg4 arg5 harg5 arg6 harg6 arg7 harg7 arg12 harg12 x0 x1 x2 x3 x4 x5 x6 xs0)),
      (minimumf (kernelRun0_B.sl.r_62 c arg1 harg1 arg2 harg2 arg3 harg3 arg4 harg4 arg5 harg5 arg6 harg6 arg7 harg7 arg12 harg12 x0 x1 x2 x3 x4 x5 x6 xs0) (kernelRun0_B.sl.r_57 c arg1 harg1 arg2 harg2 arg3 harg3 arg4 harg4 arg5 harg5 arg6 harg6 arg7 harg7 arg12 harg12 x0 x1 x2 x3 x4 x5 x6 xs0)),
      (maximumf (kernelRun0_B.sl.r_62 c arg1 harg1 arg2 harg2 arg3 harg3 arg4 harg4 arg5 harg5 arg6 harg6 arg7 harg7 arg12 harg12 x0 x1 x2 x3 x4 x5 x6 xs0) (kernelRun0_B.sl.r_57 c arg1 harg1 arg2 harg2 arg3 harg3 arg4 harg4 arg5 harg5 arg6 harg6 arg7 harg7 arg12 harg12 x0 x1 x2 x3 x4 x5 x6 xs0)),
      (minimumf (maximumf (kernelRun0_B.sl.r_61 c arg1 harg1 arg2 harg2 arg3 harg3 arg4 harg4 arg5 harg5 arg6 harg6 arg7 harg7 arg12 harg12 x0 x1 x2 x3 x4 x5 x6 xs0) (kernelRun0_B.sl.r_60 c arg1 harg1 arg2 harg2 arg3 harg3 arg4 harg4 arg5 harg5 arg6 harg6 arg7 harg7 arg12 harg12 x0 x1 x2 x3 x4 x5 x6 xs0)) (kernelRun0_B.sl.r_58 c arg1 harg1 arg2 harg2 arg3 harg3 arg4 harg4 arg5 harg5 arg6 harg6 arg7 harg7 arg12 harg12 x0 x1 x2 x3 x4 x5 x6 xs0))⟩ : Six _) := by
  have h1 : (⟨(kernelRun0_B.sl.r_21 c arg1 harg1 arg2 harg2 arg3 harg3 arg4 harg4 arg5 harg5 arg6 harg6 arg7 harg7 arg12 harg12 x0 x1 x2 x3 x4 x5 x6 xs0),
      (kernelRun0_B.sl.r_22 c arg1 harg1 arg2 harg2 arg3 harg3 arg4 harg4 arg5 harg5 arg6 harg6 arg7 harg7 arg12 harg12 x0 x1 x2 x3 x4 x5 x6 xs0),
      (kernelRun0_B.sl.r_23 c arg1 harg1 arg2 harg2 arg3 harg3 arg4 harg4 arg5 harg5 arg6 harg6 arg7 harg7 arg12 harg12 x0 x1 x2 x3 x4 x5 x6 xs0),
      (kernelRun0_B.sl.r_24 c arg1 harg1 arg2 harg2 arg3 harg3 arg4 harg4 arg5 harg5 arg6 harg6 arg7 harg7 arg12 harg12 x0 x1 x2 x3 x4 x5 x6 xs0),
      (kernelRun0_B.sl.r_25 c arg1 harg1 arg2 harg2 arg3 harg3 arg4 harg4 arg5 harg5 arg6 harg6 arg7 harg7 arg12 harg12 x0 x1 x2 x3 x4 x5 x6 xs0),
      (kernelRun0_B.sl.r_26 c arg1 harg1 arg2 harg2 arg3 harg3 arg4 harg4 arg5 harg5 arg6 harg6 arg7 harg7 arg12 harg12 x0 x1 x2 x3 x4 x5 x6 xs0)⟩ : Six _)
      = Select.lanes (kernelRun0_B.sl.r_2 c arg1 harg1 arg2 harg2 arg3 harg3 arg4 harg4 arg5 harg5 arg6 harg6 arg7 harg7 arg12 harg12 x0 x1 x2 x3 x4 x5 x6 xs0) := rfl
  have h2 : (⟨(kernelRun0_B.sl.r_29 c arg1 harg1 arg2 harg2 arg3 harg3 arg4 harg4 arg5 harg5 arg6 harg6 arg7 harg7 arg12 harg12 x0 x1 x2 x3 x4 x5 x6 xs0),
      (kernelRun0_B.sl.r_36 c arg1 harg1 arg2 harg2 arg3 harg3 arg4 harg4 arg5 harg5 arg6 harg6 arg7 harg7 arg12 harg12 x0 x1 x2 x3 x4 x5 x6 xs0),
      (maximumf (kernelRun0_B.sl.r_33 c arg1 harg1 arg2 harg2 arg3 harg3 arg4 harg4 arg5 harg5 arg6 harg6 arg7 harg7 arg12 harg12 x0 x1 x2 x3 x4 x5 x6 xs0) (kernelRun0_B.sl.r_30 c arg1 harg1 arg2 harg2 arg3 harg3 arg4 harg4 arg5 harg5 arg6 harg6 arg7 harg7 arg12 harg12 x0 x1 x2 x3 x4 x5 x6 xs0)),
      (minimumf (kernelRun0_B.sl.r_34 c arg1 harg1 arg2 harg2 arg3 harg3 arg4 harg4 arg5 harg5 arg6 harg6 arg7 harg7 arg12 harg12 x0 x1 x2 x3 x4 x5 x6 xs0) (kernelRun0_B.sl.r_31 c arg1 harg1 arg2 harg2 arg3 harg3 arg4 harg4 arg5 harg5 arg6 harg6 arg7 harg7 arg12 harg12 x0 x1 x2 x3 x4 x5 x6 xs0)),
      (maximumf (kernelRun0_B.sl.r_34 c arg1 harg1 arg2 harg2 arg3 harg3 arg4 harg4 arg5 harg5 arg6 harg6 arg7 harg7 arg12 harg12 x0 x1 x2 x3 x4 x5 x6 xs0) (kernelRun0_B.sl.r_31 c arg1 harg1 arg2 harg2 arg3 harg3 arg4 harg4 arg5 harg5 arg6 harg6 arg7 harg7 arg12 harg12 x0 x1 x2 x3 x4 x5 x6 xs0)),
      (minimumf (kernelRun0_B.sl.r_35 c arg1 harg1 arg2 harg2 arg3 harg3 arg4 harg4 arg5 harg5 arg6 harg6 arg7 harg7 arg12 harg12 x0 x1 x2 x3 x4 x5 x6 xs0) (kernelRun0_B.sl.r_32 c arg1 harg1 arg2 harg2 arg3 harg3 arg4 harg4 arg5 harg5 arg6 harg6 arg7 harg7 arg12 harg12 x0 x1 x2 x3 x4 x5 x6 xs0))⟩ : Six _)
      = Select.rollCols 96#32 (Select.rollCols 64#32
        (⟨(kernelRun0_B.sl.r_21 c arg1 harg1 arg2 harg2 arg3 harg3 arg4 harg4 arg5 harg5 arg6 harg6 arg7 harg7 arg12 harg12 x0 x1 x2 x3 x4 x5 x6 xs0),
      (kernelRun0_B.sl.r_22 c arg1 harg1 arg2 harg2 arg3 harg3 arg4 harg4 arg5 harg5 arg6 harg6 arg7 harg7 arg12 harg12 x0 x1 x2 x3 x4 x5 x6 xs0),
      (kernelRun0_B.sl.r_23 c arg1 harg1 arg2 harg2 arg3 harg3 arg4 harg4 arg5 harg5 arg6 harg6 arg7 harg7 arg12 harg12 x0 x1 x2 x3 x4 x5 x6 xs0),
      (kernelRun0_B.sl.r_24 c arg1 harg1 arg2 harg2 arg3 harg3 arg4 harg4 arg5 harg5 arg6 harg6 arg7 harg7 arg12 harg12 x0 x1 x2 x3 x4 x5 x6 xs0),
      (kernelRun0_B.sl.r_25 c arg1 harg1 arg2 harg2 arg3 harg3 arg4 harg4 arg5 harg5 arg6 harg6 arg7 harg7 arg12 harg12 x0 x1 x2 x3 x4 x5 x6 xs0),
      (kernelRun0_B.sl.r_26 c arg1 harg1 arg2 harg2 arg3 harg3 arg4 harg4 arg5 harg5 arg6 harg6 arg7 harg7 arg12 harg12 x0 x1 x2 x3 x4 x5 x6 xs0)⟩ : Six _)) := rfl
  have h3 : (⟨(kernelRun0_B.sl.r_37 c arg1 harg1 arg2 harg2 arg3 harg3 arg4 harg4 arg5 harg5 arg6 harg6 arg7 harg7 arg12 harg12 x0 x1 x2 x3 x4 x5 x6 xs0),
      (kernelRun0_B.sl.r_38 c arg1 harg1 arg2 harg2 arg3 harg3 arg4 harg4 arg5 harg5 arg6 harg6 arg7 harg7 arg12 harg12 x0 x1 x2 x3 x4 x5 x6 xs0),
      (kernelRun0_B.sl.r_39 c arg1 harg1 arg2 harg2 arg3 harg3 arg4 harg4 arg5 harg5 arg6 harg6 arg7 harg7 arg12 harg12 x0 x1 x2 x3 x4 x5 x6 xs0),
      (kernelRun0_B.sl.r_40 c arg1 harg1 arg2 harg2 arg3 harg3 arg4 harg4 arg5 harg5 arg6 harg6 arg7 harg7 arg12 harg12 x0 x1 x2 x3 x4 x5 x6 xs0),
      (kernelRun0_B.sl.r_41 c arg1 harg1 arg2 harg2 arg3 harg3 arg4 harg4 arg5 harg5 arg6 harg6 arg7 harg7 arg12 harg12 x0 x1 x2 x3 x4 x5 x6 xs0),
      (kernelRun0_B.sl.r_42 c arg1 harg1 arg2 harg2 arg3 harg3 arg4 harg4 arg5 harg5 arg6 harg6 arg7 harg7 arg12 harg12 x0 x1 x2 x3 x4 x5 x6 xs0)⟩ : Six _)
      = Select.rollRows 16#32 (Select.turn
        (⟨(kernelRun0_B.sl.r_29 c arg1 harg1 arg2 harg2 arg3 harg3 arg4 harg4 arg5 harg5 arg6 harg6 arg7 harg7 arg12 harg12 x0 x1 x2 x3 x4 x5 x6 xs0),
      (kernelRun0_B.sl.r_36 c arg1 harg1 arg2 harg2 arg3 harg3 arg4 harg4 arg5 harg5 arg6 harg6 arg7 harg7 arg12 harg12 x0 x1 x2 x3 x4 x5 x6 xs0),
      (maximumf (kernelRun0_B.sl.r_33 c arg1 harg1 arg2 harg2 arg3 harg3 arg4 harg4 arg5 harg5 arg6 harg6 arg7 harg7 arg12 harg12 x0 x1 x2 x3 x4 x5 x6 xs0) (kernelRun0_B.sl.r_30 c arg1 harg1 arg2 harg2 arg3 harg3 arg4 harg4 arg5 harg5 arg6 harg6 arg7 harg7 arg12 harg12 x0 x1 x2 x3 x4 x5 x6 xs0)),
      (minimumf (kernelRun0_B.sl.r_34 c arg1 harg1 arg2 harg2 arg3 harg3 arg4 harg4 arg5 harg5 arg6 harg6 arg7 harg7 arg12 harg12 x0 x1 x2 x3 x4 x5 x6 xs0) (kernelRun0_B.sl.r_31 c arg1 harg1 arg2 harg2 arg3 harg3 arg4 harg4 arg5 harg5 arg6 harg6 arg7 harg7 arg12 harg12 x0 x1 x2 x3 x4 x5 x6 xs0)),
      (maximumf (kernelRun0_B.sl.r_34 c arg1 harg1 arg2 harg2 arg3 harg3 arg4 harg4 arg5 harg5 arg6 harg6 arg7 harg7 arg12 harg12 x0 x1 x2 x3 x4 x5 x6 xs0) (kernelRun0_B.sl.r_31 c arg1 harg1 arg2 harg2 arg3 harg3 arg4 harg4 arg5 harg5 arg6 harg6 arg7 harg7 arg12 harg12 x0 x1 x2 x3 x4 x5 x6 xs0)),
      (minimumf (kernelRun0_B.sl.r_35 c arg1 harg1 arg2 harg2 arg3 harg3 arg4 harg4 arg5 harg5 arg6 harg6 arg7 harg7 arg12 harg12 x0 x1 x2 x3 x4 x5 x6 xs0) (kernelRun0_B.sl.r_32 c arg1 harg1 arg2 harg2 arg3 harg3 arg4 harg4 arg5 harg5 arg6 harg6 arg7 harg7 arg12 harg12 x0 x1 x2 x3 x4 x5 x6 xs0))⟩ : Six _)) := rfl
  have h4 : (⟨(kernelRun0_B.sl.r_48 c arg1 harg1 arg2 harg2 arg3 harg3 arg4 harg4 arg5 harg5 arg6 harg6 arg7 harg7 arg12 harg12 x0 x1 x2 x3 x4 x5 x6 xs0),
      (kernelRun0_B.sl.r_49 c arg1 harg1 arg2 harg2 arg3 harg3 arg4 harg4 arg5 harg5 arg6 harg6 arg7 harg7 arg12 harg12 x0 x1 x2 x3 x4 x5 x6 xs0),
      (kernelRun0_B.sl.r_50 c arg1 harg1 arg2 harg2 arg3 harg3 arg4 harg4 arg5 harg5 arg6 harg6 arg7 harg7 arg12 harg12 x0 x1 x2 x3 x4 x5 x6 xs0),
      (kernelRun0_B.sl.r_51 c arg1 harg1 arg2 harg2 arg3 harg3 arg4 harg4 arg5 harg5 arg6 harg6 arg7 harg7 arg12 harg12 x0 x1 x2 x3 x4 x5 x6 xs0),
      (kernelRun0_B.sl.r_52 c arg1 harg1 arg2 harg2 arg3 harg3 arg4 harg4 arg5 harg5 arg6 harg6 arg7 harg7 arg12 harg12 x0 x1 x2 x3 x4 x5 x6 xs0),
      (kernelRun0_B.sl.r_53 c arg1 harg1 arg2 harg2 arg3 harg3 arg4 harg4 arg5 harg5 arg6 harg6 arg7 harg7 arg12 harg12 x0 x1 x2 x3 x4 x5 x6 xs0)⟩ : Six _)
      = Select.rollRows 28#32 (Select.rollRows 24#32
        (⟨(kernelRun0_B.sl.r_37 c arg1 harg1 arg2 harg2 arg3 harg3 arg4 harg4 arg5 harg5 arg6 harg6 arg7 harg7 arg12 harg12 x0 x1 x2 x3 x4 x5 x6 xs0),
      (kernelRun0_B.sl.r_38 c arg1 harg1 arg2 harg2 arg3 harg3 arg4 harg4 arg5 harg5 arg6 harg6 arg7 harg7 arg12 harg12 x0 x1 x2 x3 x4 x5 x6 xs0),
      (kernelRun0_B.sl.r_39 c arg1 harg1 arg2 harg2 arg3 harg3 arg4 harg4 arg5 harg5 arg6 harg6 arg7 harg7 arg12 harg12 x0 x1 x2 x3 x4 x5 x6 xs0),
      (kernelRun0_B.sl.r_40 c arg1 harg1 arg2 harg2 arg3 harg3 arg4 harg4 arg5 harg5 arg6 harg6 arg7 harg7 arg12 harg12 x0 x1 x2 x3 x4 x5 x6 xs0),
      (kernelRun0_B.sl.r_41 c arg1 harg1 arg2 harg2 arg3 harg3 arg4 harg4 arg5 harg5 arg6 harg6 arg7 harg7 arg12 harg12 x0 x1 x2 x3 x4 x5 x6 xs0),
      (kernelRun0_B.sl.r_42 c arg1 harg1 arg2 harg2 arg3 harg3 arg4 harg4 arg5 harg5 arg6 harg6 arg7 harg7 arg12 harg12 x0 x1 x2 x3 x4 x5 x6 xs0)⟩ : Six _)) := rfl
  have h5 : (⟨(kernelRun0_B.sl.r_55 c arg1 harg1 arg2 harg2 arg3 harg3 arg4 harg4 arg5 harg5 arg6 harg6 arg7 harg7 arg12 harg12 x0 x1 x2 x3 x4 x5 x6 xs0),
      (minimumf (kernelRun0_B.sl.r_59 c arg1 harg1 arg2 harg2 arg3 harg3 arg4 harg4 arg5 harg5 arg6 harg6 arg7 harg7 arg12 harg12 x0 x1 x2 x3 x4 x5 x6 xs0) (kernelRun0_B.sl.r_56 c arg1 harg1 arg2 harg2 arg3 harg3 arg4 harg4 arg5 harg5 arg6 harg6 arg7 harg7 arg12 harg12 x0 x1 x2 x3 x4 x5 x6 xs0)),
      (maximumf (kernelRun0_B.sl.r_59 c arg1 harg1 arg2 harg2 arg3 harg3 arg4 harg4 arg5 harg5 arg6 harg6 arg7 harg7 arg12 harg12 x0 x1 x2 x3 x4 x5 x6 xs0) (kernelRun0_B.sl.r_56 c arg1 harg1 arg2 harg2 arg3 harg3 arg4 harg4 arg5 harg5 arg6 harg6 arg7 harg7 arg12 harg12 x0 x1 x2 x3 x4 x5 x6 xs0)),
      (minimumf (kernelRun0_B.sl.r_62 c arg1 harg1 arg2 harg2 arg3 harg3 arg4 harg4 arg5 harg5 arg6 harg6 arg7 harg7 arg12 harg12 x0 x1 x2 x3 x4 x5 x6 xs0) (kernelRun0_B.sl.r_57 c arg1 harg1 arg2 harg2 arg3 harg3 arg4 harg4 arg5 harg5 arg6 harg6 arg7 harg7 arg12 harg12 x0 x1 x2 x3 x4 x5 x6 xs0)),
      (maximumf (kernelRun0_B.sl.r_62 c arg1 harg1 arg2 harg2 arg3 harg3 arg4 harg4 arg5 harg5 arg6 harg6 arg7 harg7 arg12 harg12 x0 x1 x2 x3 x4 x5 x6 xs0) (kernelRun0_B.sl.r_57 c arg1 harg1 arg2 harg2 arg3 harg3 arg4 harg4 arg5 harg5 arg6 harg6 arg7 harg7 arg12 harg12 x0 x1 x2 x3 x4 x5 x6 xs0)),
      (minimumf (maximumf (kernelRun0_B.sl.r_61 c arg1 harg1 arg2 harg2 arg3 harg3 arg4 harg4 arg5 harg5 arg6 harg6 arg7 harg7 arg12 harg12 x0 x1 x2 x3 x4 x5 x6 xs0) (kernelRun0_B.sl.r_60 c arg1 harg1 arg2 harg2 arg3 harg3 arg4 harg4 arg5 harg5 arg6 harg6 arg7 harg7 arg12 harg12 x0 x1 x2 x3 x4 x5 x6 xs0)) (kernelRun0_B.sl.r_58 c arg1 harg1 arg2 harg2 arg3 harg3 arg4 harg4 arg5 harg5 arg6 harg6 arg7 harg7 arg12 harg12 x0 x1 x2 x3 x4 x5 x6 xs0))⟩ : Six _)
      = Select.rollRows 31#32 (Select.rollRows 30#32
        (⟨(kernelRun0_B.sl.r_48 c arg1 harg1 arg2 harg2 arg3 harg3 arg4 harg4 arg5 harg5 arg6 harg6 arg7 harg7 arg12 harg12 x0 x1 x2 x3 x4 x5 x6 xs0),
      (kernelRun0_B.sl.r_49 c arg1 harg1 arg2 harg2 arg3 harg3 arg4 harg4 arg5 harg5 arg6 harg6 arg7 harg7 arg12 harg12 x0 x1 x2 x3 x4 x5 x6 xs0),
      (kernelRun0_B.sl.r_50 c arg1 harg1 arg2 harg2 arg3 harg3 arg4 harg4 arg5 harg5 arg6 harg6 arg7 harg7 arg12 harg12 x0 x1 x2 x3 x4 x5 x6 xs0),
      (kernelRun0_B.sl.r_51 c arg1 harg1 arg2 harg2 arg3 harg3 arg4 harg4 arg5 harg5 arg6 harg6 arg7 harg7 arg12 harg12 x0 x1 x2 x3 x4 x5 x6 xs0),
      (kernelRun0_B.sl.r_52 c arg1 harg1 arg2 harg2 arg3 harg3 arg4 harg4 arg5 harg5 arg6 harg6 arg7 harg7 arg12 harg12 x0 x1 x2 x3 x4 x5 x6 xs0),
      (kernelRun0_B.sl.r_53 c arg1 harg1 arg2 harg2 arg3 harg3 arg4 harg4 arg5 harg5 arg6 harg6 arg7 harg7 arg12 harg12 x0 x1 x2 x3 x4 x5 x6 xs0)⟩ : Six _)) := rfl
  rw [h5, h4, h3, h2, h1]
  unfold Select.rows Select.cols
  with_reducible rfl

/-- Later points: the embedding. -/
theorem emb_B (hc0 : ¬cond0_0 i) (hc1 : ¬cond0_1 i) :
    out0_B_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo10 xs0
      = shapeCast S1x784x256 (emb x0 x1 x2 x3 x4 x6) shapeCasts_S784x256_S1x784x256 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo10 xs0)]
  unfold kernelRun0_B
  refine (View.canon_unit_zero hz' _ _).trans ?_
  unfold kernelRun0_B.sl.r kernelRun0_B.sl.r_1
  simp only [View.readAt_eq_ld, harg1.read_unread, harg2.read_unread, harg3.read_unread, harg4.read_unread,
    harg5.read_unread, harg7.read_unread,
    View.ld_unit_zero (S := S1x512x784) hz', View.ld_unit_zero (S := S1x1024x196) hz', View.ld_unit_zero (S := S256x512) hz,
    View.ld_unit_zero (S := S256x1024) hz, View.ld_unit_zero (S := S784x196) hz,
    View.ld_unit_zero (S := S1x256) hz]
  rfl

/-- Later points: the score. -/
theorem score_B (hc0 : ¬cond0_0 i) (hc1 : ¬cond0_1 i) :
    out0_B_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo10 xs0
      = Select.score (six x0 x1 x2 x3 x4 x5 x6 xs0) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo10 xs0)]
  unfold kernelRun0_B
  refine (View.canon_unit_zero hz' _ _).trans ?_
  unfold six Select.nearest Select.least
  rw [← rest_B c arg1 harg1 arg2 harg2 arg3 harg3 arg4 harg4 arg5 harg5 arg6 harg6 arg7 harg7 arg12 harg12 x0 x1 x2 x3 x4 x5 x6 xs0,
    ← norm_B c arg1 harg1 arg2 harg2 arg3 harg3 arg4 harg4 arg5 harg5 arg7 harg7 x0 x1 x2 x3 x4 x6, rows_B]
  rfl

/-- Later points: the loss so far, and what the point's image adds. -/
theorem loss_B (hc0 : ¬cond0_0 i) (hc1 : ¬cond0_1 i) :
    out0_B_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo10 xs0
      = k0_pay1 (Select.loss (six x0 x1 x2 x3 x4 x5 x6 xs0) x7) xo10 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo10 xs0)]
  unfold kernelRun0_B
  refine (View.canon_cons_unit_zero hz _ _ _).trans ?_
  unfold six Select.nearest Select.least
  rw [← rest_B c arg1 harg1 arg2 harg2 arg3 harg3 arg4 harg4 arg5 harg5 arg6 harg6 arg7 harg7 arg12 harg12 x0 x1 x2 x3 x4 x5 x6 xs0,
    ← norm_B c arg1 harg1 arg2 harg2 arg3 harg3 arg4 harg4 arg5 harg5 arg7 harg7 x0 x1 x2 x3 x4 x6, rows_B]
  refine congrArg₂ k0_pay1 ?_ ?_
  · unfold kernelRun0_B.sl.r_71 kernelRun0_B.sl.r_69 kernelRun0_B.sl.r_70
    rw [View.readAt_eq_ld, harg8.read_unread, View.ld_unit_zero (S := S1x1) hz]
    rfl
  · rw [View.readAt_eq_ld, harg11.read_unread, View.ld_unit_zero (S := S1x1) hz]

/-- First point: the values that are selected from. -/
theorem rest_A : (kernelRun0_A.sl.r_2 c arg1 harg1 arg2 harg2 arg3 harg3 arg4 harg4 arg5 harg5 arg6 harg6 arg7 harg7 arg12 x0 x1 x2 x3 x4 x5 x6)
      = rest x0 x1 x2 x3 x4 x5 x6 (k0_pay2 x5) := by
  unfold kernelRun0_A.sl.r_2 kernelRun0_A.sl.r kernelRun0_A.sl.r_1 kernelRun0_A.sl.v71 kernelRun0_A.sl.HS0_1
  rw [View.readCov_unit_zero _ hz]
  simp only [View.readAt_eq_ld, harg1.read_unread, harg2.read_unread, harg3.read_unread, harg4.read_unread,
    harg5.read_unread, harg6.read_unread, harg7.read_unread,
    View.ld_unit_zero (S := S1x512x784) hz', View.ld_unit_zero (S := S1x1024x196) hz', View.ld_unit_zero (S := S256x512) hz,
    View.ld_unit_zero (S := S256x1024) hz, View.ld_unit_zero (S := S784x196) hz, View.ld_unit_zero (S := S2048x256) hz,
    View.ld_unit_zero (S := S1x256) hz]
  rfl

/-- First point: the squared norms. -/
theorem norm_A : (kernelRun0_A.sl.r_4 c arg1 harg1 arg2 harg2 arg3 harg3 arg4 harg4 arg5 harg5 arg7 harg7 x0 x1 x2 x3 x4 x6)
      = norm x0 x1 x2 x3 x4 x6 := by
  unfold kernelRun0_A.sl.r_4 kernelRun0_A.sl.r_3 kernelRun0_A.sl.r kernelRun0_A.sl.r_1
  simp only [View.readAt_eq_ld, harg1.read_unread, harg2.read_unread, harg3.read_unread, harg4.read_unread,
    harg5.read_unread, harg7.read_unread,
    View.ld_unit_zero (S := S1x512x784) hz', View.ld_unit_zero (S := S1x1024x196) hz', View.ld_unit_zero (S := S256x512) hz,
    View.ld_unit_zero (S := S256x1024) hz, View.ld_unit_zero (S := S784x196) hz,
    View.ld_unit_zero (S := S1x256) hz]
  rfl

/-- First point: the selection, in the steps of the body. -/
theorem rows_A : Select.rows (Select.turn (Select.cols (kernelRun0_A.sl.r_2 c arg1 harg1 arg2 harg2 arg3 harg3 arg4 harg4 arg5 harg5 arg6 harg6 arg7 harg7 arg12 x0 x1 x2 x3 x4 x5 x6)))
      = (⟨(kernelRun0_A.sl.r_55 c arg1 harg1 arg2 harg2 arg3 harg3 arg4 harg4 arg5 harg5 arg6 harg6 arg7 harg7 arg12 x0 x1 x2 x3 x4 x5 x6),
      (minimumf (kernelRun0_A.sl.r_59 c arg1 harg1 arg2 harg2 arg3 harg3 arg4 harg4 arg5 harg5 arg6 harg6 arg7 harg7 arg12 x0 x1 x2 x3 x4 x5 x6) (kernelRun0_A.sl.r_56 c arg1 harg1 arg2 harg2 arg3 harg3 arg4 harg4 arg5 harg5 arg6 harg6 arg7 harg7 arg12 x0 x1 x2 x3 x4 x5 x6)),
      (maximumf (kernelRun0_A.sl.r_59 c arg1 harg1 arg2 harg2 arg3 harg3 arg4 harg4 arg5 harg5 arg6 harg6 arg7 harg7 arg12 x0 x1 x2 x3 x4 x5 x6) (kernelRun0_A.sl.r_56 c arg1 harg1 arg2 harg2 arg3 harg3 arg4 harg4 arg5 harg5 arg6 harg6 arg7 harg7 arg12 x0 x1 x2 x3 x4 x5 x6)),
      (minimumf (kernelRun0_A.sl.r_62 c arg1 harg1 arg2 harg2 arg3 harg3 arg4 harg4 arg5 harg5 arg6 harg6 arg7 harg7 arg12 x0 x1 x2 x3 x4 x5 x6) (kernelRun0_A.sl.r_57 c arg1 harg1 arg2 harg2 arg3 harg3 arg4 harg4 arg5 harg5 arg6 harg6 arg7 harg7 arg12 x0 x1 x2 x3 x4 x5 x6)),
      (maximumf (kernelRun0_A.sl.r_62 c arg1 harg1 arg2 harg2 arg3 harg3 arg4 harg4 arg5 harg5 arg6 harg6 arg7 harg7 arg12 x0 x1 x2 x3 x4 x5 x6) (kernelRun0_A.sl.r_57 c arg1 harg1 arg2 harg2 arg3 harg3 arg4 harg4 arg5 harg5 arg6 harg6 arg7 harg7 arg12 x0 x1 x2 x3 x4 x5 x6)),
      (minimumf (maximumf (kernelRun0_A.sl.r_61 c arg1 harg1 arg2 harg2 arg3 harg3 arg4 harg4 arg5 harg5 arg6 harg6 arg7 harg7 arg12 x0 x1 x2 x3 x4 x5 x6) (kernelRun0_A.sl.r_60 c arg1 harg1 arg2 harg2 arg3 harg3 arg4 harg4 arg5 harg5 arg6 harg6 arg7 harg7 arg12 x0 x1 x2 x3 x4 x5 x6)) (kernelRun0_A.sl.r_58 c arg1 harg1 arg2 harg2 arg3 harg3 arg4 harg4 arg5 harg5 arg6 harg6 arg7 harg7 arg12 x0 x1 x2 x3 x4 x5 x6))⟩ : Six _) := by
  have h1 : (⟨(kernelRun0_A.sl.r_21 c arg1 harg1 arg2 harg2 arg3 harg3 arg4 harg4 arg5 harg5 arg6 harg6 arg7 harg7 arg12 x0 x1 x2 x3 x4 x5 x6),
      (kernelRun0_A.sl.r_22 c arg1 harg1 arg2 harg2 arg3 harg3 arg4 harg4 arg5 harg5 arg6 harg6 arg7 harg7 arg12 x0 x1 x2 x3 x4 x5 x6),
      (kernelRun0_A.sl.r_23 c arg1 harg1 arg2 harg2 arg3 harg3 arg4 harg4 arg5 harg5 arg6 harg6 arg7 harg7 arg12 x0 x1 x2 x3 x4 x5 x6),
      (kernelRun0_A.sl.r_24 c arg1 harg1 arg2 harg2 arg3 harg3 arg4 harg4 arg5 harg5 arg6 harg6 arg7 harg7 arg12 x0 x1 x2 x3 x4 x5 x6),
      (kernelRun0_A.sl.r_25 c arg1 harg1 arg2 harg2 arg3 harg3 arg4 harg4 arg5 harg5 arg6 harg6 arg7 harg7 arg12 x0 x1 x2 x3 x4 x5 x6),
      (kernelRun0_A.sl.r_26 c arg1 harg1 arg2 harg2 arg3 harg3 arg4 harg4 arg5 harg5 arg6 harg6 arg7 harg7 arg12 x0 x1 x2 x3 x4 x5 x6)⟩ : Six _)
      = Select.lanes (kernelRun0_A.sl.r_2 c arg1 harg1 arg2 harg2 arg3 harg3 arg4 harg4 arg5 harg5 arg6 harg6 arg7 harg7 arg12 x0 x1 x2 x3 x4 x5 x6) := rfl
  have h2 : (⟨(kernelRun0_A.sl.r_29 c arg1 harg1 arg2 harg2 arg3 harg3 arg4 harg4 arg5 harg5 arg6 harg6 arg7 harg7 arg12 x0 x1 x2 x3 x4 x5 x6),
      (kernelRun0_A.sl.r_36 c arg1 harg1 arg2 harg2 arg3 harg3 arg4 harg4 arg5 harg5 arg6 harg6 arg7 harg7 arg12 x0 x1 x2 x3 x4 x5 x6),
      (maximumf (kernelRun0_A.sl.r_33 c arg1 harg1 arg2 harg2 arg3 harg3 arg4 harg4 arg5 harg5 arg6 harg6 arg7 harg7 arg12 x0 x1 x2 x3 x4 x5 x6) (kernelRun0_A.sl.r_30 c arg1 harg1 arg2 harg2 arg3 harg3 arg4 harg4 arg5 harg5 arg6 harg6 arg7 harg7 arg12 x0 x1 x2 x3 x4 x5 x6)),
      (minimumf (kernelRun0_A.sl.r_34 c arg1 harg1 arg2 harg2 arg3 harg3 arg4 harg4 arg5 harg5 arg6 harg6 arg7 harg7 arg12 x0 x1 x2 x3 x4 x5 x6) (kernelRun0_A.sl.r_31 c arg1 harg1 arg2 harg2 arg3 harg3 arg4 harg4 arg5 harg5 arg6 harg6 arg7 harg7 arg12 x0 x1 x2 x3 x4 x5 x6)),
      (maximumf (kernelRun0_A.sl.r_34 c arg1 harg1 arg2 harg2 arg3 harg3 arg4 harg4 arg5 harg5 arg6 harg6 arg7 harg7 arg12 x0 x1 x2 x3 x4 x5 x6) (kernelRun0_A.sl.r_31 c arg1 harg1 arg2 harg2 arg3 harg3 arg4 harg4 arg5 harg5 arg6 harg6 arg7 harg7 arg12 x0 x1 x2 x3 x4 x5 x6)),
      (minimumf (kernelRun0_A.sl.r_35 c arg1 harg1 arg2 harg2 arg3 harg3 arg4 harg4 arg5 harg5 arg6 harg6 arg7 harg7 arg12 x0 x1 x2 x3 x4 x5 x6) (kernelRun0_A.sl.r_32 c arg1 harg1 arg2 harg2 arg3 harg3 arg4 harg4 arg5 harg5 arg6 harg6 arg7 harg7 arg12 x0 x1 x2 x3 x4 x5 x6))⟩ : Six _)
      = Select.rollCols 96#32 (Select.rollCols 64#32
        (⟨(kernelRun0_A.sl.r_21 c arg1 harg1 arg2 harg2 arg3 harg3 arg4 harg4 arg5 harg5 arg6 harg6 arg7 harg7 arg12 x0 x1 x2 x3 x4 x5 x6),
      (kernelRun0_A.sl.r_22 c arg1 harg1 arg2 harg2 arg3 harg3 arg4 harg4 arg5 harg5 arg6 harg6 arg7 harg7 arg12 x0 x1 x2 x3 x4 x5 x6),
      (kernelRun0_A.sl.r_23 c arg1 harg1 arg2 harg2 arg3 harg3 arg4 harg4 arg5 harg5 arg6 harg6 arg7 harg7 arg12 x0 x1 x2 x3 x4 x5 x6),
      (kernelRun0_A.sl.r_24 c arg1 harg1 arg2 harg2 arg3 harg3 arg4 harg4 arg5 harg5 arg6 harg6 arg7 harg7 arg12 x0 x1 x2 x3 x4 x5 x6),
      (kernelRun0_A.sl.r_25 c arg1 harg1 arg2 harg2 arg3 harg3 arg4 harg4 arg5 harg5 arg6 harg6 arg7 harg7 arg12 x0 x1 x2 x3 x4 x5 x6),
      (kernelRun0_A.sl.r_26 c arg1 harg1 arg2 harg2 arg3 harg3 arg4 harg4 arg5 harg5 arg6 harg6 arg7 harg7 arg12 x0 x1 x2 x3 x4 x5 x6)⟩ : Six _)) := rfl
  have h3 : (⟨(kernelRun0_A.sl.r_37 c arg1 harg1 arg2 harg2 arg3 harg3 arg4 harg4 arg5 harg5 arg6 harg6 arg7 harg7 arg12 x0 x1 x2 x3 x4 x5 x6),
      (kernelRun0_A.sl.r_38 c arg1 harg1 arg2 harg2 arg3 harg3 arg4 harg4 arg5 harg5 arg6 harg6 arg7 harg7 arg12 x0 x1 x2 x3 x4 x5 x6),
      (kernelRun0_A.sl.r_39 c arg1 harg1 arg2 harg2 arg3 harg3 arg4 harg4 arg5 harg5 arg6 harg6 arg7 harg7 arg12 x0 x1 x2 x3 x4 x5 x6),
      (kernelRun0_A.sl.r_40 c arg1 harg1 arg2 harg2 arg3 harg3 arg4 harg4 arg5 harg5 arg6 harg6 arg7 harg7 arg12 x0 x1 x2 x3 x4 x5 x6),
      (kernelRun0_A.sl.r_41 c arg1 harg1 arg2 harg2 arg3 harg3 arg4 harg4 arg5 harg5 arg6 harg6 arg7 harg7 arg12 x0 x1 x2 x3 x4 x5 x6),
      (kernelRun0_A.sl.r_42 c arg1 harg1 arg2 harg2 arg3 harg3 arg4 harg4 arg5 harg5 arg6 harg6 arg7 harg7 arg12 x0 x1 x2 x3 x4 x5 x6)⟩ : Six _)
      = Select.rollRows 16#32 (Select.turn
        (⟨(kernelRun0_A.sl.r_29 c arg1 harg1 arg2 harg2 arg3 harg3 arg4 harg4 arg5 harg5 arg6 harg6 arg7 harg7 arg12 x0 x1 x2 x3 x4 x5 x6),
      (kernelRun0_A.sl.r_36 c arg1 harg1 arg2 harg2 arg3 harg3 arg4 harg4 arg5 harg5 arg6 harg6 arg7 harg7 arg12 x0 x1 x2 x3 x4 x5 x6),
      (maximumf (kernelRun0_A.sl.r_33 c arg1 harg1 arg2 harg2 arg3 harg3 arg4 harg4 arg5 harg5 arg6 harg6 arg7 harg7 arg12 x0 x1 x2 x3 x4 x5 x6) (kernelRun0_A.sl.r_30 c arg1 harg1 arg2 harg2 arg3 harg3 arg4 harg4 arg5 harg5 arg6 harg6 arg7 harg7 arg12 x0 x1 x2 x3 x4 x5 x6)),
      (minimumf (kernelRun0_A.sl.r_34 c arg1 harg1 arg2 harg2 arg3 harg3 arg4 harg4 arg5 harg5 arg6 harg6 arg7 harg7 arg12 x0 x1 x2 x3 x4 x5 x6) (kernelRun0_A.sl.r_31 c arg1 harg1 arg2 harg2 arg3 harg3 arg4 harg4 arg5 harg5 arg6 harg6 arg7 harg7 arg12 x0 x1 x2 x3 x4 x5 x6)),
      (maximumf (kernelRun0_A.sl.r_34 c arg1 harg1 arg2 harg2 arg3 harg3 arg4 harg4 arg5 harg5 arg6 harg6 arg7 harg7 arg12 x0 x1 x2 x3 x4 x5 x6) (kernelRun0_A.sl.r_31 c arg1 harg1 arg2 harg2 arg3 harg3 arg4 harg4 arg5 harg5 arg6 harg6 arg7 harg7 arg12 x0 x1 x2 x3 x4 x5 x6)),
      (minimumf (kernelRun0_A.sl.r_35 c arg1 harg1 arg2 harg2 arg3 harg3 arg4 harg4 arg5 harg5 arg6 harg6 arg7 harg7 arg12 x0 x1 x2 x3 x4 x5 x6) (kernelRun0_A.sl.r_32 c arg1 harg1 arg2 harg2 arg3 harg3 arg4 harg4 arg5 harg5 arg6 harg6 arg7 harg7 arg12 x0 x1 x2 x3 x4 x5 x6))⟩ : Six _)) := rfl
  have h4 : (⟨(kernelRun0_A.sl.r_48 c arg1 harg1 arg2 harg2 arg3 harg3 arg4 harg4 arg5 harg5 arg6 harg6 arg7 harg7 arg12 x0 x1 x2 x3 x4 x5 x6),
      (kernelRun0_A.sl.r_49 c arg1 harg1 arg2 harg2 arg3 harg3 arg4 harg4 arg5 harg5 arg6 harg6 arg7 harg7 arg12 x0 x1 x2 x3 x4 x5 x6),
      (kernelRun0_A.sl.r_50 c arg1 harg1 arg2 harg2 arg3 harg3 arg4 harg4 arg5 harg5 arg6 harg6 arg7 harg7 arg12 x0 x1 x2 x3 x4 x5 x6),
      (kernelRun0_A.sl.r_51 c arg1 harg1 arg2 harg2 arg3 harg3 arg4 harg4 arg5 harg5 arg6 harg6 arg7 harg7 arg12 x0 x1 x2 x3 x4 x5 x6),
      (kernelRun0_A.sl.r_52 c arg1 harg1 arg2 harg2 arg3 harg3 arg4 harg4 arg5 harg5 arg6 harg6 arg7 harg7 arg12 x0 x1 x2 x3 x4 x5 x6),
      (kernelRun0_A.sl.r_53 c arg1 harg1 arg2 harg2 arg3 harg3 arg4 harg4 arg5 harg5 arg6 harg6 arg7 harg7 arg12 x0 x1 x2 x3 x4 x5 x6)⟩ : Six _)
      = Select.rollRows 28#32 (Select.rollRows 24#32
        (⟨(kernelRun0_A.sl.r_37 c arg1 harg1 arg2 harg2 arg3 harg3 arg4 harg4 arg5 harg5 arg6 harg6 arg7 harg7 arg12 x0 x1 x2 x3 x4 x5 x6),
      (kernelRun0_A.sl.r_38 c arg1 harg1 arg2 harg2 arg3 harg3 arg4 harg4 arg5 harg5 arg6 harg6 arg7 harg7 arg12 x0 x1 x2 x3 x4 x5 x6),
      (kernelRun0_A.sl.r_39 c arg1 harg1 arg2 harg2 arg3 harg3 arg4 harg4 arg5 harg5 arg6 harg6 arg7 harg7 arg12 x0 x1 x2 x3 x4 x5 x6),
      (kernelRun0_A.sl.r_40 c arg1 harg1 arg2 harg2 arg3 harg3 arg4 harg4 arg5 harg5 arg6 harg6 arg7 harg7 arg12 x0 x1 x2 x3 x4 x5 x6),
      (kernelRun0_A.sl.r_41 c arg1 harg1 arg2 harg2 arg3 harg3 arg4 harg4 arg5 harg5 arg6 harg6 arg7 harg7 arg12 x0 x1 x2 x3 x4 x5 x6),
      (kernelRun0_A.sl.r_42 c arg1 harg1 arg2 harg2 arg3 harg3 arg4 harg4 arg5 harg5 arg6 harg6 arg7 harg7 arg12 x0 x1 x2 x3 x4 x5 x6)⟩ : Six _)) := rfl
  have h5 : (⟨(kernelRun0_A.sl.r_55 c arg1 harg1 arg2 harg2 arg3 harg3 arg4 harg4 arg5 harg5 arg6 harg6 arg7 harg7 arg12 x0 x1 x2 x3 x4 x5 x6),
      (minimumf (kernelRun0_A.sl.r_59 c arg1 harg1 arg2 harg2 arg3 harg3 arg4 harg4 arg5 harg5 arg6 harg6 arg7 harg7 arg12 x0 x1 x2 x3 x4 x5 x6) (kernelRun0_A.sl.r_56 c arg1 harg1 arg2 harg2 arg3 harg3 arg4 harg4 arg5 harg5 arg6 harg6 arg7 harg7 arg12 x0 x1 x2 x3 x4 x5 x6)),
      (maximumf (kernelRun0_A.sl.r_59 c arg1 harg1 arg2 harg2 arg3 harg3 arg4 harg4 arg5 harg5 arg6 harg6 arg7 harg7 arg12 x0 x1 x2 x3 x4 x5 x6) (kernelRun0_A.sl.r_56 c arg1 harg1 arg2 harg2 arg3 harg3 arg4 harg4 arg5 harg5 arg6 harg6 arg7 harg7 arg12 x0 x1 x2 x3 x4 x5 x6)),
      (minimumf (kernelRun0_A.sl.r_62 c arg1 harg1 arg2 harg2 arg3 harg3 arg4 harg4 arg5 harg5 arg6 harg6 arg7 harg7 arg12 x0 x1 x2 x3 x4 x5 x6) (kernelRun0_A.sl.r_57 c arg1 harg1 arg2 harg2 arg3 harg3 arg4 harg4 arg5 harg5 arg6 harg6 arg7 harg7 arg12 x0 x1 x2 x3 x4 x5 x6)),
      (maximumf (kernelRun0_A.sl.r_62 c arg1 harg1 arg2 harg2 arg3 harg3 arg4 harg4 arg5 harg5 arg6 harg6 arg7 harg7 arg12 x0 x1 x2 x3 x4 x5 x6) (kernelRun0_A.sl.r_57 c arg1 harg1 arg2 harg2 arg3 harg3 arg4 harg4 arg5 harg5 arg6 harg6 arg7 harg7 arg12 x0 x1 x2 x3 x4 x5 x6)),
      (minimumf (maximumf (kernelRun0_A.sl.r_61 c arg1 harg1 arg2 harg2 arg3 harg3 arg4 harg4 arg5 harg5 arg6 harg6 arg7 harg7 arg12 x0 x1 x2 x3 x4 x5 x6) (kernelRun0_A.sl.r_60 c arg1 harg1 arg2 harg2 arg3 harg3 arg4 harg4 arg5 harg5 arg6 harg6 arg7 harg7 arg12 x0 x1 x2 x3 x4 x5 x6)) (kernelRun0_A.sl.r_58 c arg1 harg1 arg2 harg2 arg3 harg3 arg4 harg4 arg5 harg5 arg6 harg6 arg7 harg7 arg12 x0 x1 x2 x3 x4 x5 x6))⟩ : Six _)
      = Select.rollRows 31#32 (Select.rollRows 30#32
        (⟨(kernelRun0_A.sl.r_48 c arg1 harg1 arg2 harg2 arg3 harg3 arg4 harg4 arg5 harg5 arg6 harg6 arg7 harg7 arg12 x0 x1 x2 x3 x4 x5 x6),
      (kernelRun0_A.sl.r_49 c arg1 harg1 arg2 harg2 arg3 harg3 arg4 harg4 arg5 harg5 arg6 harg6 arg7 harg7 arg12 x0 x1 x2 x3 x4 x5 x6),
      (kernelRun0_A.sl.r_50 c arg1 harg1 arg2 harg2 arg3 harg3 arg4 harg4 arg5 harg5 arg6 harg6 arg7 harg7 arg12 x0 x1 x2 x3 x4 x5 x6),
      (kernelRun0_A.sl.r_51 c arg1 harg1 arg2 harg2 arg3 harg3 arg4 harg4 arg5 harg5 arg6 harg6 arg7 harg7 arg12 x0 x1 x2 x3 x4 x5 x6),
      (kernelRun0_A.sl.r_52 c arg1 harg1 arg2 harg2 arg3 harg3 arg4 harg4 arg5 harg5 arg6 harg6 arg7 harg7 arg12 x0 x1 x2 x3 x4 x5 x6),
      (kernelRun0_A.sl.r_53 c arg1 harg1 arg2 harg2 arg3 harg3 arg4 harg4 arg5 harg5 arg6 harg6 arg7 harg7 arg12 x0 x1 x2 x3 x4 x5 x6)⟩ : Six _)) := rfl
  rw [h5, h4, h3, h2, h1]
  unfold Select.rows Select.cols
  with_reducible rfl

/-- First point: the embedding. -/
theorem emb_A (hc0 : cond0_0 i) (hc1 : cond0_1 i) :
    out0_A_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7
      = shapeCast S1x784x256 (emb x0 x1 x2 x3 x4 x6) shapeCasts_S784x256_S1x784x256 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 )]
  unfold kernelRun0_A
  refine (View.canon_unit_zero hz' _ _).trans ?_
  unfold kernelRun0_A.sl.r kernelRun0_A.sl.r_1
  simp only [View.readAt_eq_ld, harg1.read_unread, harg2.read_unread, harg3.read_unread, harg4.read_unread,
    harg5.read_unread, harg7.read_unread,
    View.ld_unit_zero (S := S1x512x784) hz', View.ld_unit_zero (S := S1x1024x196) hz', View.ld_unit_zero (S := S256x512) hz,
    View.ld_unit_zero (S := S256x1024) hz, View.ld_unit_zero (S := S784x196) hz,
    View.ld_unit_zero (S := S1x256) hz]
  rfl

/-- First point: the score. -/
theorem score_A (hc0 : cond0_0 i) (hc1 : cond0_1 i) :
    out0_A_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7
      = Select.score (six x0 x1 x2 x3 x4 x5 x6 (k0_pay2 x5)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 )]
  unfold kernelRun0_A
  refine (View.canon_unit_zero hz' _ _).trans ?_
  unfold six Select.nearest Select.least
  rw [← rest_A c arg1 harg1 arg2 harg2 arg3 harg3 arg4 harg4 arg5 harg5 arg6 harg6 arg7 harg7 arg12  x0 x1 x2 x3 x4 x5 x6,
    ← norm_A c arg1 harg1 arg2 harg2 arg3 harg3 arg4 harg4 arg5 harg5 arg7 harg7 x0 x1 x2 x3 x4 x6, rows_A]
  rfl

/-- First point: zero, and what the point's image adds. -/
theorem loss_A (hc0 : cond0_0 i) (hc1 : cond0_1 i) :
    out0_A_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7
      = k0_pay1 (Select.loss (six x0 x1 x2 x3 x4 x5 x6 (k0_pay2 x5)) x7) k0_pay245 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 )]
  unfold kernelRun0_A
  refine (View.canon_cons_unit_zero hz _ _ _).trans ?_
  unfold six Select.nearest Select.least
  rw [← rest_A c arg1 harg1 arg2 harg2 arg3 harg3 arg4 harg4 arg5 harg5 arg6 harg6 arg7 harg7 arg12  x0 x1 x2 x3 x4 x5 x6,
    ← norm_A c arg1 harg1 arg2 harg2 arg3 harg3 arg4 harg4 arg5 harg5 arg7 harg7 x0 x1 x2 x3 x4 x6, rows_A]
  refine congrArg₂ k0_pay1 ?_ ?_
  · unfold kernelRun0_A.sl.r_71 kernelRun0_A.sl.r_69 kernelRun0_A.sl.r_70
    rw [View.readAt_eq_ld, harg8.read_unread, View.ld_unit_zero (S := S1x1) hz]
    rfl
  · exact View.readCov_unit_zero (S := S1x1) _ hz _ _

/-- First point: the squared norms of the centroids are left in the scratch. -/
theorem cn_A (hc0 : cond0_0 i) (hc1 : cond0_1 i) :
    sout0_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7
      = k0_pay2 x5 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  refine (View.canon_unit_zero hz _ _).trans ?_
  rw [View.readAt_eq_ld, harg6.read_unread, View.ld_unit_zero (S := S2048x256) hz]

end Point

end Cert.KernelIdeal.Run

end
-- ==== Proof.KernelGrid.lean ====
module
public import proofs.«01_k».proof.Proof.KernelRun
public import Idealize.ShloMosaic.Lib.Claim
public import Idealize.ShloMosaic.Lib.Pointwise
public import Idealize.ShloMosaic.Lib.Pipeline.ValueKit.Point

/-! # What the kernel's result arrays hold after the grid -/

@[expose] public section

noncomputable section

namespace Cert.KernelIdeal.Grid

open Idealize.ShloMosaic Idealize.ShloMosaic.TcCoe Cert.KernelIdeal Cert.KernelIdeal.Gen Cert.KernelIdeal.Value Cert.Net

variable {F : FTy → Type} [FloatOps F] [Named F]
variable (m : (ℓ : Loc nD τ sig) → Buf (Elt F) ℓ)

/-- The blocks of the input windows: the first two move with the point, the others are whole arrays. -/
theorem idx : ∀ t : Fin cfg0.N, win0_0.index t = ![t.val, 0, 0] ∧ win0_1.index t = ![t.val, 0, 0]
    ∧ win0_2.index t = ![0, 0] ∧ win0_3.index t = ![0, 0] ∧ win0_4.index t = ![0, 0] ∧ win0_5.index t = ![0, 0]
    ∧ win0_6.index t = ![0, 0] ∧ win0_7.index t = ![0, 0] :=
  (by decide +kernel : ∀ t : Fin grid0.N, win0_0.index t = ![t.val, 0, 0] ∧ win0_1.index t = ![t.val, 0, 0]
    ∧ win0_2.index t = ![0, 0] ∧ win0_3.index t = ![0, 0] ∧ win0_4.index t = ![0, 0] ∧ win0_5.index t = ![0, 0]
    ∧ win0_6.index t = ![0, 0] ∧ win0_7.index t = ![0, 0])

/-- The block of the centroids is the array of the centroids. -/
theorem cents (c : Dev nD) (t : Fin cfg0.N) : (iblk m c 5 t : Vec F S2048x256 .f32) = V m c main_arg4 := by
  funext j
  have h := idx t
  blk_ext [iblk, h]

/-- The embedding at a point. -/
def embAt (c : Dev nD) (t : Fin cfg0.N) : FVec F S784x256 .f32 :=
  Run.emb (iblk m c 0 t) (iblk m c 1 t) (iblk m c 2 t) (iblk m c 3 t) (iblk m c 4 t) (iblk m c 6 t)

/-- The six least squared distances at a point. -/
def sixAt (c : Dev nD) (t : Fin cfg0.N) : Six (FVec F S1x784 .f32) :=
  Run.six (iblk m c 0 t) (iblk m c 1 t) (iblk m c 2 t) (iblk m c 3 t) (iblk m c 4 t) (V m c main_arg4) (iblk m c 6 t)
    (k0_pay2 (V m c main_arg4))

/-- What a point adds to the loss. -/
def addAt (c : Dev nD) (t : Fin cfg0.N) : F .f32 := Select.loss (sixAt m c t) (iblk m c 7 t)

/-- The loss after a point. -/
def lossAt (c : Dev nD) : (n : ℕ) → n < cfg0.N → Vec F S1x1 .f32
  | 0, h => k0_pay1 (addAt m c ⟨0, h⟩) k0_pay245
  | n + 1, h => k0_pay1 (addAt m c ⟨n + 1, h⟩) (lossAt c n (Nat.lt_of_succ_lt h))

/-- What every point leaves: its embedding, its score, the loss so far and the squared norms of the centroids. -/
theorem outs_eq (c : Dev nD) : ∀ (n : ℕ) (h : n < cfg0.N), outsAt0 m c n h
    = (shapeCast S1x784x256 (embAt m c ⟨n, h⟩) shapeCasts_S784x256_S1x784x256, Select.score (sixAt m c ⟨n, h⟩),
      lossAt m c n h, k0_pay2 (V m c main_arg4))
  | 0, h => by
    refine (outsAt0_A m c ⟨0, h⟩ rfl rfl).trans ?_
    rw [Run.emb_A, Run.score_A, Run.loss_A, Run.cn_A]
    simp only [cents]
    rfl
  | n + 1, h => by
    have hN : cfg0.N = 16 := N_0
    have hB : ¬(⟨n + 1, h⟩ : Fin cfg0.N).val % 16 = 0 := by dsimp only; omega
    have ih := outs_eq c n (Nat.lt_of_succ_lt h)
    refine (outsAt0_B m c ⟨n + 1, h⟩ hB hB).trans ?_
    have e : outsAt0 m c ((⟨n + 1, h⟩ : Fin cfg0.N).val - 1) (by dsimp only; omega) = _ := ih
    rw [Run.emb_B, Run.score_B, Run.loss_B]
    simp only [cents, e]
    rfl

/-- The grid point of an image. -/
def pt (b : Fin 16) : Fin cfg0.N := ⟨b.val, lt_of_lt_of_eq b.isLt N_0.symm⟩

/-- The first result holds the embeddings. -/
theorem emb_at (c : Dev nD) (b : Fin 16) (n : Fin 784) (o : Fin 256) :
    G8 m c (ix3 b n o) = embAt m c (pt b) (ix2 n o) := by
  have hN : cfg0.N = 16 := N_0
  have hb := b.isLt; have hn := n.isLt; have ho := o.isLt
  have hp : pt8Of (ix3 b n o) = b.val := by
    show 1 * (b.val / 1 - 0) + 1 * (n.val / 784 - 0) + 1 * (o.val / 256 - 0) = _
    omega
  have hl : loc8Of (ix3 b n o) = ix3 0 n o := by
    funext a; apply Fin.ext
    match a with
    | ⟨0, _⟩ => show b.val % 1 = 0; omega
    | ⟨1, _⟩ => show n.val % 784 = n.val; omega
    | ⟨2, _⟩ => show o.val % 256 = o.val; omega
  unfold G8
  rw [dif_pos (by omega), hl, fold0_congr m c _ _ b.val (by omega) hp, ← outsAt0_sweep m c b.val (by omega), outs_eq]
  show shapeCast S1x784x256 (embAt m c (pt b)) shapeCasts_S784x256_S1x784x256 (ix3 0 n o) = _
  pointwise []

/-- The second result holds the scores. -/
theorem score_at (c : Dev nD) (b : Fin 16) (n : Fin 784) :
    G9 m c (ix3 b 0 n) = Select.score (sixAt m c (pt b)) (ix3 0 0 n) := by
  have hN : cfg0.N = 16 := N_0
  have hb := b.isLt; have hn := n.isLt
  have hp : pt9Of (ix3 b 0 n) = b.val := by
    show 1 * (b.val / 1 - 0) + 1 * (0 / 1 - 0) + 1 * (n.val / 784 - 0) = _
    omega
  have hl : loc9Of (ix3 b 0 n) = ix3 0 0 n := by
    funext a; apply Fin.ext
    match a with
    | ⟨0, _⟩ => show b.val % 1 = 0; omega
    | ⟨1, _⟩ => show 0 % 1 = 0; omega
    | ⟨2, _⟩ => show n.val % 784 = n.val; omega
  unfold G9
  rw [dif_pos (by omega), hl, fold0_congr m c _ _ b.val (by omega) hp, ← outsAt0_sweep m c b.val (by omega), outs_eq]
  rfl

/-- The third result holds the loss after the last point. -/
theorem loss_eq (c : Dev nD) : G10 m c = lossAt m c 15 (lt_of_lt_of_eq (by decide) N_0.symm) := by
  rw [G10_last, ← outsAt0_sweep, outs_eq]

end Cert.KernelIdeal.Grid

end
-- ==== Proof.Pixel.lean ====
module
public import Mathlib.Data.Fin.Basic
public import Mathlib.Tactic.NormNum

/-! # Pixels of the two images, numbered row by row -/

@[expose] public section

namespace Cert.Pixel

/-- The row of a pixel of the large image. -/
def row (n : Fin 784) : Fin 28 := ⟨n.val / 28, by omega⟩
/-- The column of a pixel of the large image. -/
def col (n : Fin 784) : Fin 28 := ⟨n.val % 28, by omega⟩
/-- The pixel of the large image at a row and a column. -/
def at28 (h w : Fin 28) : Fin 784 := ⟨28 * h.val + w.val, by omega⟩
/-- The row of a pixel of the small image. -/
def row' (p : Fin 196) : Fin 14 := ⟨p.val / 14, by omega⟩
/-- The column of a pixel of the small image. -/
def col' (p : Fin 196) : Fin 14 := ⟨p.val % 14, by omega⟩
/-- The pixel of the small image at a row and a column. -/
def at14 (i j : Fin 14) : Fin 196 := ⟨14 * i.val + j.val, by omega⟩

@[simp] theorem row_at (h w : Fin 28) : row (at28 h w) = h := Fin.ext (by simp only [row, at28]; omega)
@[simp] theorem col_at (h w : Fin 28) : col (at28 h w) = w := Fin.ext (by simp only [col, at28]; omega)
@[simp] theorem at_row_col (n : Fin 784) : at28 (row n) (col n) = n := Fin.ext (by simp only [row, col, at28]; omega)
@[simp] theorem row'_at (i j : Fin 14) : row' (at14 i j) = i := Fin.ext (by simp only [row', at14]; omega)
@[simp] theorem col'_at (i j : Fin 14) : col' (at14 i j) = j := Fin.ext (by simp only [col', at14]; omega)
@[simp] theorem at_row'_col' (p : Fin 196) : at14 (row' p) (col' p) = p := Fin.ext (by simp only [row', col', at14]; omega)

/-- Pixels of the large image and their rows and columns. -/
def large : Fin 28 × Fin 28 ≃ Fin 784 := ⟨fun x => at28 x.1 x.2, fun n => (row n, col n), fun x => by simp, fun n => by simp⟩
/-- Pixels of the small image and their rows and columns. -/
def small : Fin 14 × Fin 14 ≃ Fin 196 := ⟨fun x => at14 x.1 x.2, fun n => (row' n, col' n), fun x => by simp, fun n => by simp⟩

end Cert.Pixel
-- ==== Proof.KernelInputs.lean ====
module
public import proofs.«01_k».proof.Proof.KernelGrid
public import proofs.«01_k».proof.Proof.Pixel

/-! # The kernel's input blocks, in terms of the arguments -/

@[expose] public section

noncomputable section

namespace Cert.KernelIdeal.Inputs

open Cert Idealize.ShloMosaic Idealize.ShloMosaic.TcCoe Cert.KernelIdeal Cert.KernelIdeal.Gen Cert.KernelIdeal.Grid

variable {F : FTy → Type} [FloatOps F] [Named F]
variable (m : (ℓ : Loc nD τ sig) → Buf (Elt F) ℓ)

/-- The upsampling along one axis, before its division: the printed table. -/
def table : FVec F S28x14 .f32 := fun i => FloatOps.ofBits .f32 (lit0 (S28x14.rowMajor i))

/-- The first input, pixels in one axis. -/
theorem V_main_v0 (c : Dev nD) : V m c main_v0 = shapeCast S16x512x784 (m ((c : Thread nD τ).loc main_arg0)) shapeCasts_S16x512x28x28_S16x512x784 := by
  unfold V
  simp only [hostOps0, hostOps0_1, hostOps0_2, List.flatten_cons, List.flatten_nil, List.append_nil, List.cons_append,
    List.nil_append]
  entry_read
  rfl

/-- The second input, pixels in one axis. -/
theorem V_main_v1 (c : Dev nD) : V m c main_v1 = shapeCast S16x1024x196 (m ((c : Thread nD τ).loc main_arg1)) shapeCasts_S16x1024x14x14_S16x1024x196 := by
  unfold V
  simp only [hostOps0, hostOps0_1, hostOps0_2, List.flatten_cons, List.flatten_nil, List.append_nil, List.cons_append,
    List.nil_append]
  entry_read
  rfl

/-- The weights of the first input. -/
theorem V_main_v2 (c : Dev nD) : V m c main_v2 = extractStridedSlice S256x512 ![0, 0] (m ((c : Thread nD τ).loc main_arg2)) slices_S256x1536_S256x512_0_0 := by
  unfold V
  simp only [hostOps0, hostOps0_1, hostOps0_2, List.flatten_cons, List.flatten_nil, List.append_nil, List.cons_append,
    List.nil_append]
  entry_read
  rfl

/-- The weights of the second input. -/
theorem V_main_v3 (c : Dev nD) : V m c main_v3 = extractStridedSlice S256x1024 ![0, 512] (m ((c : Thread nD τ).loc main_arg2)) slices_S256x1536_S256x1024_0_512 := by
  unfold V
  simp only [hostOps0, hostOps0_1, hostOps0_2, List.flatten_cons, List.flatten_nil, List.append_nil, List.cons_append,
    List.nil_append]
  entry_read
  rfl

/-- The upsampling and pooling matrix: the tables' product over nine. -/
theorem V_main_v6 (c : Dev nD) : V m c main_v6 = Host.divf (shapeCast S784x196 (mulf
      (broadcastInDim S28x28x14x14 ![0, 1, 2, 3] bcast_S28x1x14x1_S28x28x14x14_0_1_2_3
        (broadcastInDim S28x1x14x1 ![0, 2] bcast_S28x14_S28x1x14x1_0_2 (table (F := F))))
      (broadcastInDim S28x28x14x14 ![0, 1, 2, 3] bcast_S1x28x1x14_S28x28x14x14_0_1_2_3
        (broadcastInDim S1x28x1x14 ![1, 3] bcast_S28x14_S1x28x1x14_1_3 (table (F := F)))))
      shapeCasts_S28x28x14x14_S784x196)
      (broadcastInDim S784x196 ![] bcast_S_S784x196 (constant S_ .f32 0x41100000#32)) := by
  unfold V
  simp only [hostOps0, hostOps0_1, hostOps0_2, List.flatten_cons, List.flatten_nil, List.append_nil, List.cons_append,
    List.nil_append]
  entry_read
  rfl

/-- The bias as a row. -/
theorem V_main_v7 (c : Dev nD) : V m c main_v7 = shapeCast S1x256 (m ((c : Thread nD τ).loc main_arg3)) shapeCasts_S256_S1x256 := by
  unfold V
  simp only [hostOps0, hostOps0_1, hostOps0_2, List.flatten_cons, List.flatten_nil, List.append_nil, List.cons_append,
    List.nil_append]
  entry_read
  rfl

/-- The radius. -/
theorem V_main_v8 (c : Dev nD) : V m c main_v8 = shapeCast S1x1 (m ((c : Thread nD τ).loc main_arg5)) shapeCasts_S1_S1x1 := by
  unfold V
  simp only [hostOps0, hostOps0_1, hostOps0_2, List.flatten_cons, List.flatten_nil, List.append_nil, List.cons_append,
    List.nil_append]
  entry_read
  rfl

/-- The first input's block is the point's image. -/
theorem block0 (c : Dev nD) (b : Fin 16) (k : Fin 512) (n : Fin 784) :
    (iblk m c 0 (pt b) : Vec F S1x512x784 .f32) (ix3 0 k n) = V m c main_v0 (ix3 b k n) := by
  have h := idx (pt b)
  unfold pt at *
  blk_ext [iblk, h]

/-- The second input's block is the point's image. -/
theorem block1 (c : Dev nD) (b : Fin 16) (k : Fin 1024) (n : Fin 196) :
    (iblk m c 1 (pt b) : Vec F S1x1024x196 .f32) (ix3 0 k n) = V m c main_v1 (ix3 b k n) := by
  have h := idx (pt b)
  unfold pt at *
  blk_ext [iblk, h]

/-- The weights of the first input are in whole. -/
theorem block2 (c : Dev nD) (t : Fin cfg0.N) : (iblk m c 2 t : Vec F S256x512 .f32) = V m c main_v2 := by
  have h := idx t
  funext j
  blk_ext [iblk, h]

/-- The weights of the second input are in whole. -/
theorem block3 (c : Dev nD) (t : Fin cfg0.N) : (iblk m c 3 t : Vec F S256x1024 .f32) = V m c main_v3 := by
  have h := idx t
  funext j
  blk_ext [iblk, h]

/-- The upsampling matrix is in whole. -/
theorem block4 (c : Dev nD) (t : Fin cfg0.N) : (iblk m c 4 t : Vec F S784x196 .f32) = V m c main_v6 := by
  have h := idx t
  funext j
  blk_ext [iblk, h]

/-- The bias is in whole. -/
theorem block6 (c : Dev nD) (t : Fin cfg0.N) : (iblk m c 6 t : Vec F S1x256 .f32) = V m c main_v7 := by
  have h := idx t
  funext j
  blk_ext [iblk, h]

/-- The radius is in whole. -/
theorem block7 (c : Dev nD) (t : Fin cfg0.N) : (iblk m c 7 t : Vec F S1x1 .f32) = V m c main_v8 := by
  have h := idx t
  funext j
  blk_ext [iblk, h]

/-- The first input at a pixel. -/
theorem first (c : Dev nD) (b : Fin 16) (k : Fin 512) (n : Fin 784) :
    (iblk m c 0 (pt b) : Vec F S1x512x784 .f32) (ix3 0 k n)
      = m ((c : Thread nD τ).loc main_arg0) (ix4 b k (Pixel.row n) (Pixel.col n)) := by
  rw [block0, V_main_v0]
  pointwise []
  rfl

/-- The second input at a pixel. -/
theorem second (c : Dev nD) (b : Fin 16) (k : Fin 1024) (p : Fin 196) :
    (iblk m c 1 (pt b) : Vec F S1x1024x196 .f32) (ix3 0 k p)
      = m ((c : Thread nD τ).loc main_arg1) (ix4 b k (Pixel.row' p) (Pixel.col' p)) := by
  rw [block1, V_main_v1]
  pointwise []
  rfl

/-- The upsampling and pooling matrix, entry by entry. -/
theorem mup (c : Dev nD) (t : Fin cfg0.N) (n : Fin 784) (p : Fin 196) :
    (iblk m c 4 t : Vec F S784x196 .f32) (ix2 n p)
      = FloatOps.hostDivf (FloatOps.mulf (table (ix2 (Pixel.row n) (Pixel.row' p))) (table (ix2 (Pixel.col n) (Pixel.col' p))))
        (FloatOps.ofBits .f32 0x41100000#32) := by
  rw [block4, V_main_v6]
  pointwise []
  rfl

/-- The weights of the first input, entry by entry. -/
theorem left (c : Dev nD) (t : Fin cfg0.N) (o : Fin 256) (k : Fin 512) :
    (iblk m c 2 t : Vec F S256x512 .f32) (ix2 o k)
      = m ((c : Thread nD τ).loc main_arg2) (ix2 o (⟨k.val, by omega⟩ : Fin 1536)) := by
  rw [block2, V_main_v2]
  pointwise []

/-- The weights of the second input, entry by entry. -/
theorem right (c : Dev nD) (t : Fin cfg0.N) (o : Fin 256) (k : Fin 1024) :
    (iblk m c 3 t : Vec F S256x1024 .f32) (ix2 o k)
      = m ((c : Thread nD τ).loc main_arg2) (ix2 o (⟨512 + k.val, by omega⟩ : Fin 1536)) := by
  rw [block3, V_main_v3]
  pointwise []

/-- The bias, entry by entry. -/
theorem bias (c : Dev nD) (t : Fin cfg0.N) (o : Fin 256) :
    (iblk m c 6 t : Vec F S1x256 .f32) (ix2 0 o) = m ((c : Thread nD τ).loc main_arg3) (ix1 o) := by
  rw [block6, V_main_v7]
  pointwise []

/-- The radius. -/
theorem radius (c : Dev nD) (t : Fin cfg0.N) :
    (iblk m c 7 t : Vec F S1x1 .f32) (ix2 0 0) = m ((c : Thread nD τ).loc main_arg5) (ix1 0) := by
  rw [block7, V_main_v8]
  pointwise []

end Cert.KernelIdeal.Inputs

end
-- ==== Proof.Near.lean ====
module
public import Mathlib.Algebra.BigOperators.Fin
public import Mathlib.Data.Real.Basic
public import Mathlib.Tactic.NormNum
public import Mathlib.Tactic.Linarith
public import Mathlib.Tactic.Ring

/-! # A window of three along one axis, zero outside -/

@[expose] public section

noncomputable section

namespace Cert.Near

/-- One for positions at most one apart, zero for others. -/
def near (i j : ℕ) : ℝ := if i ≤ j + 1 ∧ j ≤ i + 1 then 1 else 0

/-- A function on `Fin n`, continued by zero. -/
def ext {n : ℕ} (f : Fin n → ℝ) (k : ℕ) : ℝ := if h : k < n then f ⟨k, h⟩ else 0

theorem ext_of_lt {n : ℕ} (f : Fin n → ℝ) {k : ℕ} (h : k < n) : ext f k = f ⟨k, h⟩ := dif_pos h
theorem ext_val {n : ℕ} (f : Fin n → ℝ) (k : Fin n) : ext f k.val = f k := dif_pos k.isLt

/-- The sum over the positions near `w` is the position's own value and its two neighbours', where there are any. -/
theorem sum_near {n : ℕ} (f : Fin n → ℝ) (w : Fin n) : ∑ v : Fin n, near w v * f v
    = ext f w + (if w.val < 1 then 0 else ext f (w - 1)) + ext f (w + 1) := by
  have key : ∀ v : Fin n, near w v * f v = (if v.val = w.val then ext f w else 0)
      + (if v.val + 1 = w.val then ext f (w - 1) else 0) + (if v.val = w.val + 1 then ext f (w + 1) else 0) := by
    intro v
    have hv := v.isLt; have hw := w.isLt
    unfold near
    rcases lt_trichotomy v.val w.val with h | h | h
    · by_cases h1 : v.val + 1 = w.val
      · rw [if_pos (by omega), if_neg (by omega), if_pos h1, if_neg (by omega), ← h1, Nat.add_sub_cancel, ext_val]
        ring
      · rw [if_neg (by omega), if_neg (by omega), if_neg h1, if_neg (by omega)]
        ring
    · rw [if_pos (by omega), if_pos h, if_neg (by omega), if_neg (by omega), ← h, ext_val]
      ring
    · by_cases h1 : v.val = w.val + 1
      · rw [if_pos (by omega), if_neg (by omega), if_neg (by omega), if_pos h1, ← h1, ext_val]
        ring
      · rw [if_neg (by omega), if_neg (by omega), if_neg (by omega), if_neg h1]
        ring
  have pick : ∀ (p : Fin n → Prop) [DecidablePred p] (a : Fin n) (y : ℝ), (∀ v, p v ↔ v = a) →
      ∑ v : Fin n, (if p v then y else 0) = y := by
    intro p _ a y hp
    simp only [hp, Finset.sum_ite_eq', Finset.mem_univ, if_true]
  have none : ∀ (p : Fin n → Prop) [DecidablePred p] (y : ℝ), (∀ v, ¬p v) → ∑ v : Fin n, (if p v then y else 0) = 0 := by
    intro p _ y hp
    simp only [hp, if_false, Finset.sum_const_zero]
  have hw := w.isLt
  rw [Finset.sum_congr rfl fun v _ => key v, Finset.sum_add_distrib, Finset.sum_add_distrib,
    pick (fun v => v.val = w.val) w _ (fun v => Fin.ext_iff.symm)]
  congr 1
  · congr 1
    by_cases h : w.val < 1
    · rw [if_pos h, none _ _ (fun v => by omega)]
    · rw [if_neg h, pick (fun v => v.val + 1 = w.val) ⟨w.val - 1, by omega⟩ _ (fun v => by rw [Fin.ext_iff]; dsimp only; omega)]
  · by_cases h : w.val + 1 < n
    · rw [pick (fun v => v.val = w.val + 1) ⟨w.val + 1, h⟩ _ (fun v => by rw [Fin.ext_iff])]
    · rw [none _ _ (fun v => by have := v.isLt; omega)]
      unfold ext
      rw [dif_neg h]

/-- The same sum, over the three places of a window that starts one before the position. -/
theorem sum_window {n : ℕ} (f : Fin n → ℝ) (w : Fin n) :
    ∑ v : Fin n, near w v * f v = ∑ d : Fin 3, if 1 ≤ w.val + d.val then ext f (w.val + d.val - 1) else 0 := by
  rw [sum_near, Fin.sum_univ_three]
  simp only [Fin.val_zero, Fin.val_one, Fin.val_two, Nat.add_zero, Nat.add_sub_cancel]
  rw [if_pos (by omega : 1 ≤ w.val + 1), if_pos (by omega : 1 ≤ w.val + 2), show w.val + 2 - 1 = w.val + 1 by omega]
  by_cases h : w.val < 1
  · rw [if_pos h, if_neg (by omega)]; ring
  · rw [if_neg h, if_pos (by omega)]; ring

end Cert.Near
end
-- ==== Proof.KernelEmb.lean ====
module
public import proofs.«01_k».proof.Proof.KernelRun
public import proofs.«01_k».proof.Proof.Pixel
public import proofs.«01_k».proof.Proof.Near
public import Idealize.ShloMosaic.Lib.Pointwise

/-! # The kernel's embedding of one image, over the real numbers -/

@[expose] public section

noncomputable section

namespace Cert.KernelIdeal.Emb

open Cert Idealize.ShloMosaic Idealize.ShloMosaic.TcCoe Cert.KernelIdeal Cert.KernelIdeal.Gen Cert.Near Cert.Pixel

/-- A sum of reals is the same sum over the extended reals. -/
theorem coe_sum {n : ℕ} (f : Fin n → ℝ) : ((∑ k, f k : ℝ) : EReal) = ∑ k, (f k : EReal) := by
  refine Finset.induction_on (motive := fun t : Finset (Fin n) => ((∑ k ∈ t, f k : ℝ) : EReal) = ∑ k ∈ t, (f k : EReal))
    Finset.univ rfl ?_
  intro a t ha ih
  rw [Finset.sum_insert ha, Finset.sum_insert ha, EReal.coe_add, ih]

/-- The column of a pixel, as the body's integer arithmetic computes it. -/
theorem column (n : Fin 784) : k0_pay5 (ix2 n 0) = BitVec.ofNat 32 (n.val % 28) := by
  pointwise [k0_pay5]
  revert n
  decide +kernel

/-- The mask that drops the left neighbour of the first column. -/
theorem maskLeft (n : Fin 784) : k0_pay6 (F := Ideal) (ix2 n 0) = ((if (col n).val < 1 then 0 else 1 : ℝ) : EReal) := by
  have h : ∀ n : Fin 784, BitVec.setWidth 32 (IntOp.cmpi CmpIPredicate.ne (BitVec.ofNat 32 (n.val % 28)) 0#32)
      = if (col n).val < 1 then 0#32 else 1#32 := by decide +kernel
  pointwise [k0_pay6]
  rw [column, h]
  show (((if (col n).val < 1 then 0#32 else 1#32 : BitVec 32).toInt : ℝ) : EReal) = _
  split_ifs <;> simp

/-- The mask that drops the right neighbour of the last column. -/
theorem maskRight (n : Fin 784) : FloatOps.sitofp (F := Ideal) .f32 (BitVec.setWidth 32 (k0_pay7 (ix2 n 0)))
    = ((if (col n).val + 1 < 28 then 1 else 0 : ℝ) : EReal) := by
  have h : ∀ n : Fin 784, BitVec.setWidth 32 (IntOp.cmpi CmpIPredicate.ne (BitVec.ofNat 32 (n.val % 28)) 27#32)
      = if (col n).val + 1 < 28 then 1#32 else 0#32 := by decide +kernel
  have e : k0_pay7 (ix2 n 0) = IntOp.cmpi CmpIPredicate.ne (BitVec.ofNat 32 (n.val % 28)) 27#32 := by
    pointwise [k0_pay7]
    rw [column]
  rw [e, h]
  show (((if (col n).val + 1 < 28 then 1#32 else 0#32 : BitVec 32).toInt : ℝ) : EReal) = _
  split_ifs <;> simp

/-- A row's sum over neighbouring columns, as the body forms it: masked shifts by one pixel. -/
theorem across (E : Fin 784 → ℝ) (n : Fin 784) :
    (E n : EReal) + (if h : n.val < 1 then 0 else (E ⟨n.val - 1, by omega⟩ : EReal)) * k0_pay6 (F := Ideal) (ix2 n 0)
      + (if h : n.val < 783 then (E ⟨1 + n.val, by omega⟩ : EReal) else 0)
        * FloatOps.sitofp (F := Ideal) .f32 (BitVec.setWidth 32 (k0_pay7 (ix2 n 0)))
      = ((∑ v : Fin 28, near (col n) v * E (at28 (row n) v) : ℝ) : EReal) := by
  have hn := n.isLt
  have hc : (col n).val = n.val % 28 := rfl
  rw [maskLeft, maskRight, sum_near (fun v => E (at28 (row n) v)), ext_val, at_row_col, EReal.coe_add, EReal.coe_add]
  congr 1
  · congr 1
    by_cases h : (col n).val < 1
    · rw [if_pos h, if_pos h, EReal.coe_zero, mul_zero]
    · rw [if_neg h, if_neg h, dif_neg (by omega), EReal.coe_one, mul_one, ext_of_lt _ (by omega)]
      exact congrArg (fun k => (E k : EReal)) (Fin.ext (by simp only [row, col, at28]; omega))
  · by_cases h : (col n).val + 1 < 28
    · rw [if_pos h, dif_pos (by omega), EReal.coe_one, mul_one, ext_of_lt _ h]
      exact congrArg (fun k => (E k : EReal)) (Fin.ext (by simp only [row, col, at28]; omega))
    · rw [if_neg h, EReal.coe_zero, mul_zero]
      unfold ext
      rw [dif_neg h, EReal.coe_zero]

/-- The sum over neighbouring rows, as the body forms it: shifts by one row of pixels. -/
theorem down (S : Fin 784 → ℝ) (n : Fin 784) :
    (S n : EReal) + (if h : n.val < 28 then 0 else (S ⟨n.val - 28, by omega⟩ : EReal))
      + (if h : n.val < 756 then (S ⟨28 + n.val, by omega⟩ : EReal) else 0)
      = ((∑ u : Fin 28, near (row n) u * S (at28 u (col n)) : ℝ) : EReal) := by
  have hn := n.isLt
  have hc : (row n).val = n.val / 28 := rfl
  rw [sum_near (fun u => S (at28 u (col n))), ext_val, at_row_col, EReal.coe_add, EReal.coe_add]
  congr 1
  · congr 1
    by_cases h : (row n).val < 1
    · rw [if_pos h, dif_pos (by omega), EReal.coe_zero]
    · rw [if_neg h, dif_neg (by omega), ext_of_lt _ (by omega)]
      exact congrArg (fun k => (S k : EReal)) (Fin.ext (by simp only [row, col, at28]; omega))
  · by_cases h : (row n).val + 1 < 28
    · rw [dif_pos (by omega), ext_of_lt _ h]
      exact congrArg (fun k => (S k : EReal)) (Fin.ext (by simp only [row, col, at28]; omega))
    · rw [dif_neg (by omega)]
      unfold ext
      rw [dif_neg h, EReal.coe_zero]

/-- The embedding at a pixel: the mean of the projected first input over the pixel's neighbours, the projected second
    input through the upsampling matrix, and the bias. -/
def real (a0 : Fin 512 → Fin 784 → ℝ) (a1 : Fin 1024 → Fin 196 → ℝ) (w0 : Fin 256 → Fin 512 → ℝ)
    (w1 : Fin 256 → Fin 1024 → ℝ) (u : Fin 784 → Fin 196 → ℝ) (c : Fin 256 → ℝ) (n : Fin 784) (o : Fin 256) : ℝ :=
  (∑ r : Fin 28, near (row n) r * ∑ v : Fin 28, near (col n) v * ∑ k : Fin 512, a0 k (at28 r v) * w0 o k) * (1 / 9)
    + ∑ p : Fin 196, u n p * ∑ k : Fin 1024, a1 k p * w1 o k + c o

/-- The body's embedding of real blocks. -/
theorem emb_real (x0 : Vec Ideal S1x512x784 .f32) (x1 : Vec Ideal S1x1024x196 .f32) (x2 : Vec Ideal S256x512 .f32)
    (x3 : Vec Ideal S256x1024 .f32) (x4 : Vec Ideal S784x196 .f32) (x6 : Vec Ideal S1x256 .f32)
    (a0 : Fin 512 → Fin 784 → ℝ) (a1 : Fin 1024 → Fin 196 → ℝ) (w0 : Fin 256 → Fin 512 → ℝ)
    (w1 : Fin 256 → Fin 1024 → ℝ) (u : Fin 784 → Fin 196 → ℝ) (c : Fin 256 → ℝ)
    (h0 : ∀ k n, x0 (ix3 0 k n) = (a0 k n : EReal)) (h1 : ∀ k p, x1 (ix3 0 k p) = (a1 k p : EReal))
    (h2 : ∀ o k, x2 (ix2 o k) = (w0 o k : EReal)) (h3 : ∀ o k, x3 (ix2 o k) = (w1 o k : EReal))
    (h4 : ∀ n p, x4 (ix2 n p) = (u n p : EReal)) (h6 : ∀ o, x6 (ix2 0 o) = (c o : EReal)) (n : Fin 784) (o : Fin 256) :
    Run.emb x0 x1 x2 x3 x4 x6 (ix2 n o) = (real a0 a1 w0 w1 u c n o : EReal) := by
  have e0 : ∀ n, k0_pay3 x0 x2 (ix2 n o) = ((∑ k : Fin 512, a0 k n * w0 o k : ℝ) : EReal) := by
    intro n
    pointwise [k0_pay3]
    simp only [h0, h2, ← EReal.coe_mul]
    exact (coe_sum _).symm
  have e1 : ∀ p, k0_pay4 x1 x3 (ix2 p o) = ((∑ k : Fin 1024, a1 k p * w1 o k : ℝ) : EReal) := by
    intro p
    pointwise [k0_pay4]
    simp only [h1, h3, ← EReal.coe_mul]
    exact (coe_sum _).symm
  have d := down (fun n => ∑ v : Fin 28, near (col n) v * ∑ k : Fin 512, a0 k (at28 (row n) v) * w0 o k) n
  simp only [← across (fun n => ∑ k : Fin 512, a0 k n * w0 o k), row_at, col_at] at d
  have q : Named.named (F := Ideal) κ "ninth" (φ := .f32) 0x3DE38E39#32 = ((1 / 9 : ℝ) : EReal) :=
    IdealRules.named_const.ideal_named_scalar _ _ _ _ rfl
  unfold Run.emb
  pointwise [k0_pay8]
  simp only [e0, e1, h4, h6, ← EReal.coe_mul]
  refine (congrArg₂ (· + ·) (congrArg₂ (· + ·) (congrArg₂ (· * ·) d q) (coe_sum _).symm) rfl).trans ?_
  simp only [← EReal.coe_mul, ← EReal.coe_add]
  rfl

end Cert.KernelIdeal.Emb
end
-- ==== Proof.RefStages.lean ====
module
public import proofs.«01_k».proof.Proof.Gen.ReferenceIdeal.Run

/-! # The stages of the reference

The reference's results, as a few named functions of its arguments: the averages over windows of three by three, the
weights of the linear upsampling, the sampled features, the embedding, the squared distances, the score and the loss. -/

@[expose] public section

set_option maxRecDepth 8192

noncomputable section

namespace Cert.ReferenceIdeal.Stages

open Idealize.ShloMosaic Idealize.ShloMosaic.TcCoe Cert.ReferenceIdeal Cert.ReferenceIdeal.Gen

variable {F : FTy → Type} [FloatOps F]

/-- The mean over windows of three by three, of the large images. -/
def large (x : FVec F S16x512x28x28 .f32) : FVec F S16x512x28x28 .f32 :=
  Host.divf (Host.reduceWindowAdd ![1, 1, 3, 3] ![1, 1, 1, 1] ![0, 0, 1, 1] ![0, 0, 1, 1] x
      (broadcastInDim S_ ![] bcast_S_S_ (constant S_ .f32 0x00000000#32))
      reduceWindows_S16x512x28x28_S16x512x28x28_w1s1p0_0_w1s1p0_0_w3s1p1_1_w3s1p1_1 h_S_)
    (broadcastInDim S16x512x28x28 ![] bcast_S_S16x512x28x28 (constant S_ .f32 0x41100000#32))

/-- The mean over windows of three by three, of the small images. -/
def small (x : FVec F S16x1024x14x14 .f32) : FVec F S16x1024x14x14 .f32 :=
  Host.divf (Host.reduceWindowAdd ![1, 1, 3, 3] ![1, 1, 1, 1] ![0, 0, 1, 1] ![0, 0, 1, 1] x
      (broadcastInDim S_ ![] bcast_S_S_ (constant S_ .f32 0x00000000#32))
      reduceWindows_S16x1024x14x14_S16x1024x14x14_w1s1p0_0_w1s1p0_0_w3s1p1_1_w3s1p1_1 h_S_)
    (broadcastInDim S16x1024x14x14 ![] bcast_S_S16x1024x14x14 (constant S_ .f32 0x41100000#32))

/-- The place in the small image of each position of the large one. -/
def centre : FVec F S28 .f32 :=
  subf (mulf (addf (sitofp .f32 (iotaInDim S28 32 0)) (broadcastInDim S28 ![] bcast_S_S28 (constant S_ .f32 0x3F000000#32)))
    (broadcastInDim S28 ![] bcast_S_S28 (constant S_ .f32 0x3F000000#32)))
    (broadcastInDim S28 ![] bcast_S_S28 (constant S_ .f32 0x3F000000#32))

/-- The triangle of each position of the small image about each place. -/
def triangle : FVec F S14x28 .f32 :=
  maximumf (broadcastInDim S14x28 ![] bcast_S_S14x28 (constant S_ .f32 0x00000000#32))
    (subf (broadcastInDim S14x28 ![] bcast_S_S14x28 (constant S_ .f32 0x3F800000#32))
      (Host.absf (subf (broadcastInDim S14x28 ![0, 1] bcast_S1x28_S14x28_0_1 (broadcastInDim S1x28 ![1] bcast_S28_S1x28_1 centre))
        (broadcastInDim S14x28 ![0, 1] bcast_S14x1_S14x28_0_1
          (broadcastInDim S14x1 ![0] bcast_S14_S14x1_0 (sitofp .f32 (iotaInDim S14 32 0)))))))

/-- The weights of the upsampling: the triangles over their sums. -/
def weights : FVec F S14x28 .f32 :=
  Host.divf triangle (broadcastInDim S14x28 ![0, 1] bcast_S1x28_S14x28_0_1 (broadcastInDim S1x28 ![1] bcast_S28_S1x28_1
    (Host.reduceAdd triangle (constant S_ .f32 0x00000000#32) reducesTo_S14x28_S28_d0 h_S_)))

/-- The small images, upsampled along both axes. -/
def upsample (x : FVec F S16x1024x14x14 .f32) (w : FVec F S14x28 .f32) : FVec F S16x1024x28x28 .f32 :=
  Host.dotGeneral dot_S16x1024x14x28_S14x28_S16x1024x28x28_2_0_013_1_n_n none
    (Host.dotGeneral dot_S16x1024x14x14_S14x28_S16x1024x14x28_2_0_013_1_n_n none x w) w

/-- The projection of the features of both scales, with the bias. -/
def project (a2 : FVec F S256x1536 .f32) (a3 : FVec F S256 .f32) (x : FVec F S16x512x28x28 .f32)
    (y : FVec F S16x1024x28x28 .f32) : FVec F S16x784x256 .f32 :=
  shapeCast _ (transpose S16x28x28x256 [0, 2, 3, 1] (addf (transpose S16x256x28x28 [1, 0, 2, 3]
      (Host.dotGeneral dot_S256x1536_S16x1536x28x28_S256x16x28x28_1_1_0_023_n_n none a2
        (concatenate S16x1536x28x28 1 [⟨S16x512x28x28, x⟩, ⟨S16x1024x28x28, y⟩]
          concatenates_S16x512x28x28_S16x1024x28x28_S16x1536x28x28_d1)) transposes_S256x16x28x28_S16x256x28x28_1_0_2_3)
      (broadcastInDim S16x256x28x28 ![0, 1, 2, 3] bcast_S1x256x1x1_S16x256x28x28_0_1_2_3
        (broadcastInDim S1x256x1x1 ![1] bcast_S256_S1x256x1x1_1 a3))) transposes_S16x256x28x28_S16x28x28x256_0_2_3_1)
    shapeCasts_S16x28x28x256_S16x784x256

/-- The embedding of every pixel. -/
def embed (a0 : FVec F S16x512x28x28 .f32) (a1 : FVec F S16x1024x14x14 .f32) (a2 : FVec F S256x1536 .f32)
    (a3 : FVec F S256 .f32) : FVec F S16x784x256 .f32 :=
  project a2 a3 (large a0) (upsample (small a1) weights)

/-- The squared distances of the embeddings to the centroids. -/
def dist (e : FVec F S16x784x256 .f32) (ct : FVec F S2048x256 .f32) : FVec F S16x784x2048 .f32 :=
  subf (addf (broadcastInDim S16x784x2048 ![0, 1, 2] bcast_S16x784x1_S16x784x2048_0_1_2
      (broadcastInDim S16x784x1 ![0, 1] bcast_S16x784_S16x784x1_0_1
        (Host.reduceAdd (mulf e e) (constant S_ .f32 0x00000000#32) reducesTo_S16x784x256_S16x784_d2 h_S_)))
      (broadcastInDim S16x784x2048 ![0, 1, 2] bcast_S1x1x2048_S16x784x2048_0_1_2
        (broadcastInDim S1x1x2048 ![2] bcast_S2048_S1x1x2048_2
          (Host.reduceAdd (mulf ct ct) (constant S_ .f32 0x00000000#32) reducesTo_S2048x256_S2048_d1 h_S_))))
    (mulf (broadcastInDim S16x784x2048 ![] bcast_S_S16x784x2048 (constant S_ .f32 0x40000000#32))
      (Host.dotGeneral dot_S16x784x256_S2048x256_S16x784x2048_2_1_01_0_n_n none e ct))

/-- The three least distances of every pixel. -/
def near3 (d : FVec F S16x784x2048 .f32) : FVec F S16x784x3 .f32 :=
  Host.negf ((Host.topK S16x784x3 2 (FloatOps.cmpfTotal .gt) (Host.negf (Host.sqrt (maximumf d
    (broadcastInDim S16x784x2048 ![] bcast_S_S16x784x2048 (constant S_ .f32 0x2B8CBCCC#32)))))
    sliceFits_S16x784x2048_S16x784x3).1)

/-- The exponentials of the softmax over the three least distances. -/
def powers (n : FVec F S16x784x3 .f32) : FVec F S16x784x3 .f32 :=
  Host.exp (subf (Host.negf n) (broadcastInDim S16x784x3 ![0, 1, 2] bcast_S16x784x1_S16x784x3_0_1_2
    (broadcastInDim S16x784x1 ![0, 1] bcast_S16x784_S16x784x1_0_1
      (maximumf (broadcastInDim S16x784 ![] bcast_S_S16x784 (constant S_ .f32 0xFF800000#32))
        (Host.reduce FloatOps.maximumf (Host.negf n) (constant S_ .f32 0xFF800000#32) reducesTo_S16x784x3_S16x784_d2 h_S_)))))

/-- The score: the first softmax weight times the least distance. -/
def score (n : FVec F S16x784x3 .f32) : FVec F S16x1x784 .f32 :=
  shapeCast _ (mulf
      (shapeCast _ (extractStridedSlice S16x784x1 ![0, 0, 0] (Host.divf (powers n)
        (broadcastInDim S16x784x3 ![0, 1, 2] bcast_S16x784x1_S16x784x3_0_1_2
          (broadcastInDim S16x784x1 ![0, 1] bcast_S16x784_S16x784x1_0_1
            (Host.reduceAdd (powers n) (constant S_ .f32 0x00000000#32) reducesTo_S16x784x3_S16x784_d2 h_S_))))
        slices_S16x784x3_S16x784x1_0_0_0) shapeCasts_S16x784x1_S16x784)
      (shapeCast _ (extractStridedSlice S16x784x1 ![0, 0, 0] n slices_S16x784x3_S16x784x1_0_0_0) shapeCasts_S16x784x1_S16x784))
    shapeCasts_S16x784_S16x1x784

/-- The six least squared distances of every pixel. -/
def near6 (d : FVec F S16x784x2048 .f32) : FVec F S16x784x6 .f32 :=
  Host.negf ((Host.topK S16x784x6 2 (FloatOps.cmpfTotal .gt) (Host.negf d) sliceFits_S16x784x2048_S16x784x6).1)

/-- The squared radius, at every entry. -/
def radius (r : FVec F S1 .f32) : FVec F S16x784x3 .f32 :=
  broadcastInDim S16x784x3 ![0, 1, 2] bcast_S1x1x1_S16x784x3_0_1_2 (broadcastInDim S1x1x1 ![2] bcast_S1_S1x1x1_2 (mulf r r))

/-- A thousand times the mean of the positive parts. -/
def penalty (x : FVec F S16x784x3 .f32) : FVec F S_ .f32 :=
  mulf (constant S_ .f32 0x447A0000#32) (Host.divf
    (Host.reduceAdd (maximumf x (broadcastInDim S16x784x3 ![] bcast_S_S16x784x3 (constant S_ .f32 0x00000000#32)))
      (constant S_ .f32 0x00000000#32) reducesTo_S16x784x3_S_d0_1_2 h_S_) (constant S_ .f32 0x47130000#32))

/-- The loss: three attracted and three repelled centroids per pixel. -/
def loss (n : FVec F S16x784x6 .f32) (r : FVec F S1 .f32) : FVec F S1x1 .f32 :=
  shapeCast _ (addf (penalty (subf (extractStridedSlice S16x784x3 ![0, 0, 0] n slices_S16x784x6_S16x784x3_0_0_0) (radius r)))
      (penalty (addf (subf (radius r) (extractStridedSlice S16x784x3 ![0, 0, 3] n slices_S16x784x6_S16x784x3_0_0_3))
        (broadcastInDim S16x784x3 ![] bcast_S_S16x784x3 (constant S_ .f32 0x3DCCCCCD#32)))))
    shapeCasts_S_S1x1

/-- The embedding of the arguments. -/
def embedAt (m : (ℓ : Loc nD τ sig) → Buf (Elt F) ℓ) (c : Dev nD) : FVec F S16x784x256 .f32 :=
  embed (m ((c.tc : Thread nD τ).loc main_arg0)) (m ((c.tc : Thread nD τ).loc main_arg1))
    (m ((c.tc : Thread nD τ).loc main_arg2)) (m ((c.tc : Thread nD τ).loc main_arg3))

/-- The squared distances of the arguments. -/
def distAt (m : (ℓ : Loc nD τ sig) → Buf (Elt F) ℓ) (c : Dev nD) : FVec F S16x784x2048 .f32 :=
  dist (embedAt m c) (m ((c.tc : Thread nD τ).loc main_arg4))

/-- The third result is the embedding. -/
theorem out_embed (m : (ℓ : Loc nD τ sig) → Buf (Elt F) ℓ) (c : Dev nD) : Value.res_out2 m c = embedAt m c := rfl

/-- The second result is the score. -/
theorem out_score (m : (ℓ : Loc nD τ sig) → Buf (Elt F) ℓ) (c : Dev nD) :
    Value.res_out1 m c = score (near3 (distAt m c)) := rfl

/-- The first result is the loss. -/
theorem out_loss (m : (ℓ : Loc nD τ sig) → Buf (Elt F) ℓ) (c : Dev nD) :
    Value.res_out0 m c = loss (near6 (distAt m c)) (m ((c.tc : Thread nD τ).loc main_arg5)) := rfl

end Cert.ReferenceIdeal.Stages
end
-- ==== Proof.Weights.lean ====
module
public import Mathlib.Algebra.BigOperators.Fin
public import Mathlib.Data.Real.Basic
public import Mathlib.Tactic.NormNum
public import Mathlib.Tactic.Linarith
public import Mathlib.Tactic.Ring
public import proofs.«01_k».proof.Proof.Near

/-! # The weights of the linear upsampling from 14 to 28, in quarters -/

@[expose] public section

noncomputable section

namespace Cert.Weights

open Cert.Near

/-- Four times the distance from a position of the small image to the place of a position of the large one. -/
def gap (i : Fin 14) (h : Fin 28) : ℤ := 2 * h.val - 1 - 4 * i.val
/-- Four times the triangle about a place. -/
def tri (i : Fin 14) (h : Fin 28) : ℕ := 4 - (gap i h).natAbs
/-- The sum of the triangles of one place. -/
def total (h : Fin 28) : ℕ := ∑ i, tri i h
/-- Four times the weight: the triangle over the sum. -/
def quarters (i : Fin 14) (h : Fin 28) : ℕ := 4 * tri i h / total h
/-- Four times the weight after a window of three in the small image. -/
def window (h : Fin 28) (r : Fin 14) : ℕ := ∑ i : Fin 14, if i.val ≤ r.val + 1 ∧ r.val ≤ i.val + 1 then quarters i h else 0

/-- A quarter of a sum is the sum of the quarters. -/
theorem sum_quarter {n : ℕ} (f : Fin n → ℝ) : (∑ i, f i) / 4 = ∑ i, f i / 4 := by
  simp only [div_eq_mul_inv]
  exact Finset.sum_mul _ _ _

/-- No sum of triangles is zero. -/
theorem total_ne (h : Fin 28) : total h ≠ 0 := by
  revert h
  decide +kernel

/-- The triangles' quotients by their sum are whole quarters. -/
theorem quarters_mul (i : Fin 14) (h : Fin 28) : quarters i h * total h = 4 * tri i h := by
  revert i h
  decide +kernel

/-- A triangle, over the reals. -/
theorem tri_real (i : Fin 14) (h : Fin 28) :
    max 0 (1 - max ((h.val + 1 / 2 : ℝ) * (1 / 2) - 1 / 2 - i.val) (-((h.val + 1 / 2 : ℝ) * (1 / 2) - 1 / 2 - i.val)))
      = (tri i h : ℝ) / 4 := by
  have e : ((h.val + 1 / 2 : ℝ) * (1 / 2) - 1 / 2 - i.val) = (gap i h : ℝ) / 4 := by
    unfold gap
    push_cast
    ring
  have a : max ((gap i h : ℝ) / 4) (-((gap i h : ℝ) / 4)) = ((gap i h).natAbs : ℝ) / 4 := by
    rw [Nat.cast_natAbs, Int.cast_abs]
    rcases le_total 0 (gap i h : ℝ) with g | g
    · rw [abs_of_nonneg g, max_eq_left (by linarith)]
    · rw [abs_of_nonpos g, max_eq_right (by linarith)]; ring
  rw [e, a]
  unfold tri
  rcases Nat.le_total (gap i h).natAbs 4 with g | g
  · have g' : ((gap i h).natAbs : ℝ) ≤ 4 := by exact_mod_cast g
    rw [Nat.cast_sub g, max_eq_right (by linarith)]
    push_cast
    ring
  · have g' : (4 : ℝ) ≤ ((gap i h).natAbs : ℝ) := by exact_mod_cast g
    rw [Nat.sub_eq_zero_of_le g, max_eq_left (by linarith)]
    simp

/-- A weight, over the reals: the triangle over the sum. -/
theorem weight_real (i : Fin 14) (h : Fin 28) :
    (tri i h : ℝ) / 4 * (∑ k, (tri k h : ℝ) / 4)⁻¹ = (quarters i h : ℝ) / 4 := by
  have t : (∑ k, (tri k h : ℝ) / 4) = (total h : ℝ) / 4 := by
    unfold total
    rw [← sum_quarter, Nat.cast_sum]
  have n : (total h : ℝ) ≠ 0 := by exact_mod_cast total_ne h
  have q : (quarters i h : ℝ) * total h = 4 * tri i h := by exact_mod_cast quarters_mul i h
  rw [t, inv_div, div_mul_div_comm, div_eq_div_iff (by simpa using n) (by norm_num)]
  linarith

/-- The sum of the triangles is not zero. -/
theorem sum_ne (h : Fin 28) : (∑ k, (tri k h : ℝ) / 4) ≠ 0 := by
  rw [← sum_quarter, ← Nat.cast_sum]
  have n : ((∑ k, tri k h : ℕ) : ℝ) ≠ 0 := by exact_mod_cast total_ne h
  exact div_ne_zero n (by norm_num)

/-- The windowed weight, over the reals. -/
theorem window_real (h : Fin 28) (r : Fin 14) :
    (window h r : ℝ) / 4 = ∑ i : Fin 14, near i r * ((quarters i h : ℝ) / 4) := by
  unfold window near
  rw [Nat.cast_sum, sum_quarter]
  refine Finset.sum_congr rfl fun i _ => ?_
  split_ifs <;> simp

end Cert.Weights
end
-- ==== Proof.RefEmbed.lean ====
module
public import proofs.«01_k».proof.Proof.RefStages
public import proofs.«01_k».proof.Proof.Pixel
public import proofs.«01_k».proof.Proof.Weights
public import Idealize.ShloMosaic.Lib.Pointwise

/-! # The reference's embedding, over the real numbers -/

@[expose] public section

set_option maxRecDepth 8192

noncomputable section

namespace Cert.ReferenceIdeal.Embed

open Cert Idealize.ShloMosaic Idealize.ShloMosaic.TcCoe Cert.ReferenceIdeal Cert.ReferenceIdeal.Gen Cert.Near Cert.Pixel

/-- A sum of reals is the same sum over the extended reals. -/
theorem coe_sum {n : ℕ} (f : Fin n → ℝ) : ((∑ k, f k : ℝ) : EReal) = ∑ k, (f k : EReal) := by
  refine Finset.induction_on (motive := fun t : Finset (Fin n) => ((∑ k ∈ t, f k : ℝ) : EReal) = ∑ k ∈ t, (f k : EReal))
    Finset.univ rfl ?_
  intro a t ha ih
  rw [Finset.sum_insert ha, Finset.sum_insert ha, EReal.coe_add, ih]

/-- A fold that adds reals. -/
theorem foldl_coe {α : Type} (f : EReal → α → EReal) (g : α → ℝ) (hf : ∀ r n, f r n = r + (g n : EReal)) (l : List α) (a : ℝ) :
    l.foldl f (a : EReal) = ((a + (l.map g).sum : ℝ) : EReal) := by
  induction l generalizing a with
  | nil => simp
  | cons n l ih => rw [List.foldl_cons, hf, ← EReal.coe_add, ih, List.map_cons, List.sum_cons, add_assoc]

/-- The places of a window of three by three, numbered row by row. -/
theorem place (n : Fin (⟨4, ![1, 1, 3, 3]⟩ : Shape).numel) :
    ((⟨4, ![1, 1, 3, 3]⟩ : Shape).rowMajor.symm n 0).val = 0 ∧ ((⟨4, ![1, 1, 3, 3]⟩ : Shape).rowMajor.symm n 1).val = 0
      ∧ ((⟨4, ![1, 1, 3, 3]⟩ : Shape).rowMajor.symm n 2).val = n.val / 3
      ∧ ((⟨4, ![1, 1, 3, 3]⟩ : Shape).rowMajor.symm n 3).val = n.val % 3 := by
  revert n
  decide +kernel

/-- The sum over a window of three by three about a position, zero outside the image. -/
theorem window_sum {B K H W : ℕ} (x : (⟨4, ![B, K, H, W]⟩ : Shape).Idx → EReal) (b : Fin B) (k : Fin K) (i : Fin H) (j : Fin W)
    (f : Fin H → Fin W → ℝ) (hx : ∀ r v, x (ix4 b k r v) = (f r v : EReal))
    (h : (⟨4, ![B, K, H, W]⟩ : Shape).ReduceWindows (![1, 1, 3, 3] : Fin 4 → Nat) ![1, 1, 1, 1] ![0, 0, 1, 1] ![0, 0, 1, 1] ⟨4, ![B, K, H, W]⟩) :
    Ideal.hostReduceWindowAdd (s := ⟨4, ![B, K, H, W]⟩) ![1, 1, 3, 3] ![1, 1, 1, 1] ![0, 0, 1, 1] ![0, 0, 1, 1] h x 0 (ix4 b k i j)
      = ((∑ r : Fin H, near i r * ∑ v : Fin W, near j v * f r v : ℝ) : EReal) := by
  let g : ℕ → ℝ := fun n => if 1 ≤ i.val + n / 3 then
    ext (fun r => if 1 ≤ j.val + n % 3 then ext (f r) (j.val + n % 3 - 1) else 0) (i.val + n / 3 - 1) else 0
  unfold Ideal.hostReduceWindowAdd Host.reduceWindow
  refine (foldl_coe _ (fun n => g n.val) (fun r n => ?_) _ 0).trans ?_
  · obtain ⟨p0, p1, p2, p3⟩ := place n
    dsimp only
    refine congrArg (r + ·) ?_
    split
    · next hin =>
      have h2 := hin 2
      have h3 := hin 3
      change 1 ≤ i.val * 1 + ((⟨4, ![1, 1, 3, 3]⟩ : Shape).rowMajor.symm n 2).val
        ∧ i.val * 1 + ((⟨4, ![1, 1, 3, 3]⟩ : Shape).rowMajor.symm n 2).val - 1 < H at h2
      change 1 ≤ j.val * 1 + ((⟨4, ![1, 1, 3, 3]⟩ : Shape).rowMajor.symm n 3).val
        ∧ j.val * 1 + ((⟨4, ![1, 1, 3, 3]⟩ : Shape).rowMajor.symm n 3).val - 1 < W at h3
      rw [p2] at h2
      rw [p3] at h3
      have e : g n.val = f ⟨i.val + n.val / 3 - 1, by omega⟩ ⟨j.val + n.val % 3 - 1, by omega⟩ := by
        show ite _ _ _ = _
        rw [if_pos (by omega), ext_of_lt _ (by omega), if_pos (by omega), ext_of_lt _ (by omega)]
      rw [e, ← hx]
      refine congrArg x (funext fun a => Fin.ext ?_)
      match a with
      | ⟨0, _⟩ => show b.val * 1 + ((⟨4, ![1, 1, 3, 3]⟩ : Shape).rowMajor.symm n 0).val - 0 = b.val; omega
      | ⟨1, _⟩ => show k.val * 1 + ((⟨4, ![1, 1, 3, 3]⟩ : Shape).rowMajor.symm n 1).val - 0 = k.val; omega
      | ⟨2, _⟩ => show i.val * 1 + ((⟨4, ![1, 1, 3, 3]⟩ : Shape).rowMajor.symm n 2).val - 1 = i.val + n.val / 3 - 1; omega
      | ⟨3, _⟩ => show j.val * 1 + ((⟨4, ![1, 1, 3, 3]⟩ : Shape).rowMajor.symm n 3).val - 1 = j.val + n.val % 3 - 1; omega
    · next hin =>
      have e : g n.val = 0 := by
        by_contra hg
        refine hin fun a => ?_
        have h2 : 1 ≤ i.val + n.val / 3 := by
          by_contra q
          exact hg (if_neg q)
        have hg' : ext (fun r => if 1 ≤ j.val + n.val % 3 then ext (f r) (j.val + n.val % 3 - 1) else 0) (i.val + n.val / 3 - 1) ≠ 0 := by
          intro q
          exact hg ((if_pos h2).trans q)
        have h2' : i.val + n.val / 3 - 1 < H := by
          by_contra q
          exact hg' (dif_neg q)
        rw [ext_of_lt _ h2'] at hg'
        have h3 : 1 ≤ j.val + n.val % 3 := by
          by_contra q
          exact hg' (if_neg q)
        have h3' : j.val + n.val % 3 - 1 < W := by
          by_contra q
          exact hg' ((if_pos h3).trans (dif_neg q))
        have hb := b.isLt
        have hk := k.isLt
        match a with
        | ⟨0, _⟩ =>
          show 0 ≤ b.val * 1 + ((⟨4, ![1, 1, 3, 3]⟩ : Shape).rowMajor.symm n 0).val
            ∧ b.val * 1 + ((⟨4, ![1, 1, 3, 3]⟩ : Shape).rowMajor.symm n 0).val - 0 < B
          omega
        | ⟨1, _⟩ =>
          show 0 ≤ k.val * 1 + ((⟨4, ![1, 1, 3, 3]⟩ : Shape).rowMajor.symm n 1).val
            ∧ k.val * 1 + ((⟨4, ![1, 1, 3, 3]⟩ : Shape).rowMajor.symm n 1).val - 0 < K
          omega
        | ⟨2, _⟩ =>
          show 1 ≤ i.val * 1 + ((⟨4, ![1, 1, 3, 3]⟩ : Shape).rowMajor.symm n 2).val
            ∧ i.val * 1 + ((⟨4, ![1, 1, 3, 3]⟩ : Shape).rowMajor.symm n 2).val - 1 < H
          omega
        | ⟨3, _⟩ =>
          show 1 ≤ j.val * 1 + ((⟨4, ![1, 1, 3, 3]⟩ : Shape).rowMajor.symm n 3).val
            ∧ j.val * 1 + ((⟨4, ![1, 1, 3, 3]⟩ : Shape).rowMajor.symm n 3).val - 1 < W
          omega
      rw [e, EReal.coe_zero]
  · refine congrArg _ ?_
    rw [zero_add, ← Fin.sum_univ_def]
    show ∑ n : Fin 9, g n.val = _
    have line : ∀ d e : Fin 3, g (3 * d.val + e.val) = if 1 ≤ i.val + d.val then
        ext (fun r => if 1 ≤ j.val + e.val then ext (f r) (j.val + e.val - 1) else 0) (i.val + d.val - 1) else 0 := by
      intro d e
      show (if 1 ≤ i.val + (3 * d.val + e.val) / 3 then ext (fun r => if 1 ≤ j.val + (3 * d.val + e.val) % 3 then
        ext (f r) (j.val + (3 * d.val + e.val) % 3 - 1) else 0) (i.val + (3 * d.val + e.val) / 3 - 1) else 0) = _
      rw [show (3 * d.val + e.val) / 3 = d.val by omega, show (3 * d.val + e.val) % 3 = e.val by omega]
    have inner : ∀ d : Fin 3, (if 1 ≤ i.val + d.val then ext (fun r => ∑ v : Fin W, near j v * f r v) (i.val + d.val - 1) else 0)
        = ∑ e : Fin 3, g (3 * d.val + e.val) := by
      intro d
      simp only [line]
      by_cases q : 1 ≤ i.val + d.val
      · simp only [if_pos q]
        by_cases s : i.val + d.val - 1 < H
        · simp only [ext_of_lt _ s]
          exact sum_window _ _
        · unfold ext
          simp only [dif_neg s, Finset.sum_const_zero]
      · simp only [if_neg q, Finset.sum_const_zero]
    rw [sum_window]
    simp only [inner]
    rw [Fin.sum_univ_castSucc, Fin.sum_univ_eight]
    simp only [Fin.sum_univ_three]
    exact (by intros; ring : ∀ a b c d e f g h i : ℝ, a + b + c + d + e + f + g + h + i = a + b + c + (d + e + f) + (g + h + i))
      (g 0) (g 1) (g 2) (g 3) (g 4) (g 5) (g 6) (g 7) (g 8)

/-- The word of nine. -/
theorem nine : Ideal.ofBits .f32 0x41100000#32 = ((9 : ℝ) : EReal) := by
  simp [Ideal.ofBits, Ideal.ieee, -EReal.coe_mul]
  norm_num

/-- The word of a half. -/
theorem half : Ideal.ofBits .f32 0x3F000000#32 = ((1 / 2 : ℝ) : EReal) := by
  simp [Ideal.ofBits, Ideal.ieee, -EReal.coe_mul]
  norm_num

/-- A quotient of reals. -/
theorem div_coe (x y : ℝ) (hy : y ≠ 0) : Ideal.div (x : EReal) (y : EReal) = ((x * y⁻¹ : ℝ) : EReal) := by
  unfold Ideal.div
  rw [if_neg (by simpa using hy), ← EReal.coe_inv, ← EReal.coe_mul]

/-- The mean over windows of the large images. -/
theorem large (x : FVec Ideal S16x512x28x28 .f32) (b : Fin 16) (k : Fin 512) (f : Fin 28 → Fin 28 → ℝ)
    (hx : ∀ r v, x (ix4 b k r v) = (f r v : EReal)) (i j : Fin 28) :
    Stages.large x (ix4 b k i j) = (((∑ r : Fin 28, near i r * ∑ v : Fin 28, near j v * f r v) * (1 / 9) : ℝ) : EReal) := by
  show Ideal.div (Ideal.hostReduceWindowAdd (s := S16x512x28x28) ![1, 1, 3, 3] ![1, 1, 1, 1] ![0, 0, 1, 1] ![0, 0, 1, 1]
      reduceWindows_S16x512x28x28_S16x512x28x28_w1s1p0_0_w1s1p0_0_w3s1p1_1_w3s1p1_1 x (Ideal.ofBits .f32 0x00000000#32) (ix4 b k i j))
    (Ideal.ofBits .f32 0x41100000#32) = _
  rw [Ideal.ofBits_zero_f32, window_sum x b k i j f hx, nine, div_coe _ _ (by norm_num)]
  congr 2
  norm_num

/-- The mean over windows of the small images. -/
theorem small (x : FVec Ideal S16x1024x14x14 .f32) (b : Fin 16) (k : Fin 1024) (f : Fin 14 → Fin 14 → ℝ)
    (hx : ∀ r v, x (ix4 b k r v) = (f r v : EReal)) (i j : Fin 14) :
    Stages.small x (ix4 b k i j) = (((∑ r : Fin 14, near i r * ∑ v : Fin 14, near j v * f r v) * (1 / 9) : ℝ) : EReal) := by
  show Ideal.div (Ideal.hostReduceWindowAdd (s := S16x1024x14x14) ![1, 1, 3, 3] ![1, 1, 1, 1] ![0, 0, 1, 1] ![0, 0, 1, 1]
      reduceWindows_S16x1024x14x14_S16x1024x14x14_w1s1p0_0_w1s1p0_0_w3s1p1_1_w3s1p1_1 x (Ideal.ofBits .f32 0x00000000#32) (ix4 b k i j))
    (Ideal.ofBits .f32 0x41100000#32) = _
  rw [Ideal.ofBits_zero_f32, window_sum x b k i j f hx, nine, div_coe _ _ (by norm_num)]
  congr 2
  norm_num

/-- A position, as a float. -/
theorem position (n : ℕ) (h : n < 28) : FloatOps.sitofp (F := Ideal) .f32 (BitVec.ofNat 32 n) = ((n : ℝ) : EReal) := by
  show (((BitVec.ofNat 32 n).toInt : ℝ) : EReal) = _
  rw [BitVec.toInt_ofNat', Int.bmod_eq_of_le (by omega) (by omega)]
  simp

/-- A triangle. -/
theorem triangle (i : Fin 14) (h : Fin 28) : Stages.triangle (F := Ideal) (ix2 i h) = (((Weights.tri i h : ℝ) / 4 : ℝ) : EReal) := by
  pointwise [Stages.triangle, Stages.centre]
  rw [position h.val h.isLt, position i.val (by omega), half, Ideal.absf_def, ← EReal.coe_zero, ← EReal.coe_one, ← EReal.coe_add,
    ← EReal.coe_mul, ← EReal.coe_sub, ← EReal.coe_sub, ← EReal.coe_neg, ← EReal.coe_strictMono.monotone.map_max, ← EReal.coe_sub,
    ← EReal.coe_strictMono.monotone.map_max, Weights.tri_real]

/-- A weight of the upsampling. -/
theorem weights (i : Fin 14) (h : Fin 28) : Stages.weights (F := Ideal) (ix2 i h) = (((Weights.quarters i h : ℝ) / 4 : ℝ) : EReal) := by
  pointwise [Stages.weights]
  simp only [triangle]
  rw [← coe_sum, div_coe _ _ (Weights.sum_ne h), Weights.weight_real]

/-- The reference's embedding at a pixel of one image. -/
def real (a0 : Fin 512 → Fin 784 → ℝ) (a1 : Fin 1024 → Fin 196 → ℝ) (w0 : Fin 256 → Fin 512 → ℝ)
    (w1 : Fin 256 → Fin 1024 → ℝ) (c : Fin 256 → ℝ) (n : Fin 784) (o : Fin 256) : ℝ :=
  ∑ k : Fin 512, w0 o k * ((∑ r : Fin 28, near (row n) r * ∑ v : Fin 28, near (col n) v * a0 k (at28 r v)) * (1 / 9))
    + ∑ k : Fin 1024, w1 o k * ∑ j : Fin 14, (∑ i : Fin 14,
        (∑ r : Fin 14, near i r * ∑ v : Fin 14, near j v * a1 k (at14 r v)) * (1 / 9) * ((Weights.quarters i (row n) : ℝ) / 4))
        * ((Weights.quarters j (col n) : ℝ) / 4) + c o

/-- The embedding of real arguments. -/
theorem embed_real (x0 : FVec Ideal S16x512x28x28 .f32) (x1 : FVec Ideal S16x1024x14x14 .f32) (x2 : FVec Ideal S256x1536 .f32)
    (x3 : FVec Ideal S256 .f32) (b : Fin 16) (a0 : Fin 512 → Fin 784 → ℝ) (a1 : Fin 1024 → Fin 196 → ℝ) (w0 : Fin 256 → Fin 512 → ℝ)
    (w1 : Fin 256 → Fin 1024 → ℝ) (c : Fin 256 → ℝ)
    (h0 : ∀ k r v, x0 (ix4 b k r v) = (a0 k (at28 r v) : EReal)) (h1 : ∀ k r v, x1 (ix4 b k r v) = (a1 k (at14 r v) : EReal))
    (h2 : ∀ o (k : Fin 512), x2 (ix2 o ⟨k.val, by omega⟩) = (w0 o k : EReal))
    (h2' : ∀ o (k : Fin 1024), x2 (ix2 o ⟨512 + k.val, by omega⟩) = (w1 o k : EReal))
    (h3 : ∀ o, x3 (ix1 o) = (c o : EReal)) (n : Fin 784) (o : Fin 256) :
    Stages.embed x0 x1 x2 x3 (ix3 b n o) = (real a0 a1 w0 w1 c n o : EReal) := by
  have s : ∀ k, Stages.upsample (Stages.small x1) Stages.weights (ix4 b k (row n) (col n))
      = ((∑ j : Fin 14, (∑ i : Fin 14,
        (∑ r : Fin 14, near i r * ∑ v : Fin 14, near j v * a1 k (at14 r v)) * (1 / 9) * ((Weights.quarters i (row n) : ℝ) / 4))
        * ((Weights.quarters j (col n) : ℝ) / 4) : ℝ) : EReal) := by
    intro k
    pointwise [Stages.upsample]
    simp only [small x1 b k (fun r v => a1 k (at14 r v)) (h1 k), weights, ← EReal.coe_mul, ← coe_sum]
  unfold Stages.embed
  pointwise [Stages.project]
  refine (congrArg₂ (· + ·) (congrArg₂ (· + ·) (Finset.sum_congr rfl fun k _ => congrArg₂ (· * ·) (h2 o k)
    (large x0 b k (fun r v => a0 k (at28 r v)) (h0 k) (row n) (col n)))
    (Finset.sum_congr rfl fun k _ => congrArg₂ (· * ·) (h2' o k) (s k))) (h3 o)).trans ?_
  simp only [← EReal.coe_mul, ← coe_sum, ← EReal.coe_add]
  rfl

end Cert.ReferenceIdeal.Embed
end
-- ==== Proof.EmbedReal.lean ====
module
public import proofs.«01_k».proof.Proof.KernelEmb
public import proofs.«01_k».proof.Proof.RefEmbed

/-! # The two embeddings are one, over the real numbers

The kernel projects before it pools and upsamples; the reference pools and upsamples before it projects. Both are sums of
the same products. -/

@[expose] public section

noncomputable section

namespace Cert.EmbedReal

open Cert Cert.Near Cert.Pixel

/-- A double sum moves out of another. -/
theorem swap {a b c d : ℕ} (t : Fin a → Fin b → Fin c → Fin d → ℝ) :
    ∑ j, ∑ i, ∑ r, ∑ v, t j i r v = ∑ r, ∑ v, ∑ j, ∑ i, t j i r v := by
  have outer : ∀ (p q : ℕ) (s : Fin p → Fin q → Fin c → ℝ), ∑ j, ∑ i, ∑ r, s j i r = ∑ r, ∑ j, ∑ i, s j i r := by
    intro p q s
    rw [Finset.sum_congr rfl fun j _ => Finset.sum_comm, Finset.sum_comm]
  rw [outer]
  refine Finset.sum_congr rfl fun r _ => ?_
  rw [Finset.sum_congr rfl fun j _ => Finset.sum_comm, Finset.sum_comm]

/-- A sum over the small image's pixels, row by row. -/
theorem sum_small (f : Fin 196 → ℝ) : ∑ p, f p = ∑ r : Fin 14, ∑ v : Fin 14, f (at14 r v) := by
  rw [← Fintype.sum_prod_type']
  exact (Equiv.sum_comp small f).symm

/-- Pooling and upsampling one channel, by the windowed weights. -/
theorem channel (x : Fin 14 → Fin 14 → ℝ) (f g : Fin 14 → ℝ) :
    ∑ j : Fin 14, (∑ i : Fin 14, (∑ r : Fin 14, near i r * ∑ v : Fin 14, near j v * x r v) * (1 / 9) * f i) * g j
      = ∑ r : Fin 14, ∑ v : Fin 14, ((∑ i : Fin 14, near i r * f i) * (∑ j : Fin 14, near j v * g j) / 9) * x r v := by
  have l : ∀ i j : Fin 14, (∑ r : Fin 14, near i r * ∑ v : Fin 14, near j v * x r v) * (1 / 9) * f i * g j
      = ∑ r : Fin 14, ∑ v : Fin 14, near i r * f i * (near j v * g j) / 9 * x r v := by
    intro i j
    rw [Finset.sum_mul, Finset.sum_mul, Finset.sum_mul]
    refine Finset.sum_congr rfl fun r _ => ?_
    rw [Finset.mul_sum, Finset.sum_mul, Finset.sum_mul, Finset.sum_mul]
    exact Finset.sum_congr rfl fun v _ => by ring
  have q : ∀ r v : Fin 14, ((∑ i : Fin 14, near i r * f i) * (∑ j : Fin 14, near j v * g j) / 9) * x r v
      = ∑ j : Fin 14, ∑ i : Fin 14, near i r * f i * (near j v * g j) / 9 * x r v := by
    intro r v
    rw [mul_comm (∑ i : Fin 14, near i r * f i), Finset.sum_mul, div_eq_mul_inv, Finset.sum_mul, Finset.sum_mul]
    refine Finset.sum_congr rfl fun j _ => ?_
    rw [Finset.mul_sum, Finset.sum_mul, Finset.sum_mul]
    exact Finset.sum_congr rfl fun i _ => by ring
  simp only [q, ← swap, ← l]
  exact Finset.sum_congr rfl fun j _ => Finset.sum_mul _ _ _

/-- A projection moves past a weighted double sum. -/
theorem project {a b c : ℕ} (k : Fin a → Fin b → ℝ) (x : Fin c → Fin a → Fin b → ℝ) (w : Fin c → ℝ) :
    ∑ r, ∑ v, k r v * ∑ q, x q r v * w q = ∑ q, w q * ∑ r, ∑ v, k r v * x q r v := by
  simp only [Finset.mul_sum]
  rw [Finset.sum_congr rfl fun r _ => Finset.sum_comm, Finset.sum_comm]
  exact Finset.sum_congr rfl fun q _ => Finset.sum_congr rfl fun r _ => Finset.sum_congr rfl fun v _ => by ring

/-- The two embeddings agree. -/
theorem real_eq (a0 : Fin 512 → Fin 784 → ℝ) (a1 : Fin 1024 → Fin 196 → ℝ) (w0 : Fin 256 → Fin 512 → ℝ)
    (w1 : Fin 256 → Fin 1024 → ℝ) (c : Fin 256 → ℝ) (n : Fin 784) (o : Fin 256) :
    KernelIdeal.Emb.real a0 a1 w0 w1 (fun n p => ((Weights.window (row n) (row' p) : ℝ) / 4)
        * ((Weights.window (col n) (col' p) : ℝ) / 4) / 9) c n o
      = ReferenceIdeal.Embed.real a0 a1 w0 w1 c n o := by
  unfold KernelIdeal.Emb.real ReferenceIdeal.Embed.real
  refine congrArg₂ (· + ·) (congrArg₂ (· + ·) ?_ ?_) rfl
  · have h := project (fun r v : Fin 28 => near (row n) r * near (col n) v * (1 / 9)) (fun k r v => a0 k (at28 r v)) (w0 o)
    refine Eq.trans ?_ (h.trans ?_)
    · rw [Finset.sum_mul]
      refine Finset.sum_congr rfl fun r _ => ?_
      rw [Finset.mul_sum, Finset.sum_mul]
      exact Finset.sum_congr rfl fun v _ => by ring
    · refine Finset.sum_congr rfl fun k _ => congrArg (w0 o k * ·) ?_
      rw [Finset.sum_mul]
      refine Finset.sum_congr rfl fun r _ => ?_
      rw [Finset.mul_sum, Finset.sum_mul]
      exact Finset.sum_congr rfl fun v _ => by ring
  · rw [sum_small]
    simp only [row'_at, col'_at, Weights.window_real, channel]
    exact project _ (fun k r v => a1 k (at14 r v)) (w1 o)

end Cert.EmbedReal
end
-- ==== Proof.EmbedEq.lean ====
module
public import proofs.«01_k».proof.Proof.KernelInputs
public import proofs.«01_k».proof.Proof.EmbedReal

/-! # The kernel's embedding is the reference's, for real arguments -/

@[expose] public section

noncomputable section

namespace Cert.EmbedEq

open Cert Idealize.ShloMosaic Idealize.ShloMosaic.TcCoe Cert.KernelIdeal Cert.KernelIdeal.Gen Cert.Pixel

/-- The printed word of a number of quarters. -/
def word (q : ℕ) : BitVec 32 := if q = 0 then 0x00000000#32 else if q = 1 then 0x3E800000#32 else
  if q = 3 then 0x3F400000#32 else if q = 4 then 0x3F800000#32 else 0xFFFFFFFF#32

/-- The printed table holds the windowed weights. -/
theorem lit_word (h : Fin 28) (r : Fin 14) : lit0 (S28x14.rowMajor (ix2 h r)) = word (Weights.window h r)
    ∧ (Weights.window h r = 0 ∨ Weights.window h r = 1 ∨ Weights.window h r = 3 ∨ Weights.window h r = 4) := by
  revert h r
  decide +kernel

/-- The table's entries, over the reals. -/
theorem table (h : Fin 28) (r : Fin 14) :
    Inputs.table (F := Ideal) (ix2 h r) = (((Weights.window h r : ℝ) / 4 : ℝ) : EReal) := by
  obtain ⟨e, k⟩ := lit_word h r
  show Ideal.ofBits .f32 (lit0 (S28x14.rowMajor (ix2 h r))) = _
  rw [e]
  rcases k with k | k | k | k <;> rw [k] <;> simp [word, Ideal.ofBits, Ideal.ieee, -EReal.coe_mul] <;> norm_num

variable (m : (ℓ : Loc nD τ sig) → Buf (Elt Ideal) ℓ) (c : Dev nD)

/-- The reference's embedding of the arguments in the kernel's memory. -/
def embed : FVec Ideal S16x784x256 .f32 :=
  ReferenceIdeal.Stages.embed (m ((c : Thread nD τ).loc main_arg0)) (m ((c : Thread nD τ).loc main_arg1))
    (m ((c : Thread nD τ).loc main_arg2)) (m ((c : Thread nD τ).loc main_arg3))

/-- The kernel's embedding of an image is the reference's, and it is real. -/
theorem embed_eq (h0 : ∀ i, ∃ r : ℝ, m ((c : Thread nD τ).loc main_arg0) i = (r : EReal))
    (h1 : ∀ i, ∃ r : ℝ, m ((c : Thread nD τ).loc main_arg1) i = (r : EReal))
    (h2 : ∀ i, ∃ r : ℝ, m ((c : Thread nD τ).loc main_arg2) i = (r : EReal))
    (h3 : ∀ i, ∃ r : ℝ, m ((c : Thread nD τ).loc main_arg3) i = (r : EReal)) (b : Fin 16) :
    ∃ e : Fin 784 → Fin 256 → ℝ, (∀ n o, Grid.embAt m c (Grid.pt b) (ix2 n o) = (e n o : EReal))
      ∧ ∀ n o, embed m c (ix3 b n o) = (e n o : EReal) := by
  choose a0 h0 using h0
  choose a1 h1 using h1
  choose a2 h2 using h2
  choose a3 h3 using h3
  refine ⟨ReferenceIdeal.Embed.real (fun k n => a0 (ix4 b k (row n) (col n))) (fun k p => a1 (ix4 b k (row' p) (col' p)))
    (fun o k => a2 (ix2 o (⟨k.val, by omega⟩ : Fin 1536))) (fun o k => a2 (ix2 o (⟨512 + k.val, by omega⟩ : Fin 1536)))
    (fun o => a3 (ix1 o)), fun n o => ?_, fun n o => ?_⟩
  · rw [← EmbedReal.real_eq]
    refine Emb.emb_real _ _ _ _ _ _ _ _ _ _ _ _ (fun k n => ?_) (fun k p => ?_) (fun o k => ?_) (fun o k => ?_) (fun n p => ?_)
      (fun o => ?_) n o
    · exact (Inputs.first m c b k n).trans (h0 _)
    · exact (Inputs.second m c b k p).trans (h1 _)
    · exact (Inputs.left m c _ o k).trans (h2 _)
    · exact (Inputs.right m c _ o k).trans (h2 _)
    · refine (Inputs.mup m c _ n p).trans ?_
      rw [table, table]
      show Ideal.div (((Weights.window (row n) (row' p) : ℝ) / 4 : ℝ) * (((Weights.window (col n) (col' p) : ℝ) / 4 : ℝ) : EReal))
        (Ideal.ofBits .f32 0x41100000#32) = _
      rw [ReferenceIdeal.Embed.nine, ← EReal.coe_mul, ReferenceIdeal.Embed.div_coe _ _ (by norm_num)]
      rfl
    · exact (Inputs.bias m c _ o).trans (h3 _)
  · refine ReferenceIdeal.Embed.embed_real _ _ _ _ b _ _ _ _ _ (fun k r v => ?_) (fun k r v => ?_) (fun o k => h2 _) (fun o k => h2 _)
      (fun o => h3 _) n o
    · rw [row_at, col_at]
      exact h0 _
    · rw [row'_at, col'_at]
      exact h1 _

end Cert.EmbedEq
end
-- ==== Proof.DistEq.lean ====
module
public import proofs.«01_k».proof.Proof.EmbedEq

/-! # The kernel's squared distances are the reference's, for real arguments

The kernel adds the squared norm of the embedding after its selection, the reference before. -/

@[expose] public section

noncomputable section

namespace Cert.DistEq

open Cert Idealize.ShloMosaic Idealize.ShloMosaic.TcCoe Cert.KernelIdeal Cert.KernelIdeal.Gen Cert.KernelIdeal.Emb

/-- The word of two. -/
theorem two : Ideal.ofBits .f32 0x40000000#32 = ((2 : ℝ) : EReal) := by
  simp [Ideal.ofBits, Ideal.ieee, -EReal.coe_mul]
  norm_num

/-- The squared norms of the centroids. -/
theorem norms (ct : FVec Ideal S2048x256 .f32) (g : Fin 2048 → Fin 256 → ℝ) (hg : ∀ j o, ct (ix2 j o) = (g j o : EReal)) (j : Fin 2048) :
    k0_pay2 (F := Ideal) ct (ix2 0 j) = ((∑ o, g j o * g j o : ℝ) : EReal) := by
  pointwise [k0_pay2]
  simp only [hg, one_mul, ← EReal.coe_mul, ← coe_sum]

/-- The reference's squared distances of real embeddings. -/
theorem dist_real (e : FVec Ideal S16x784x256 .f32) (ct : FVec Ideal S2048x256 .f32) (b : Fin 16) (f : Fin 784 → Fin 256 → ℝ)
    (g : Fin 2048 → Fin 256 → ℝ) (hf : ∀ n o, e (ix3 b n o) = (f n o : EReal)) (hg : ∀ j o, ct (ix2 j o) = (g j o : EReal))
    (n : Fin 784) (j : Fin 2048) : ReferenceIdeal.Stages.dist e ct (ix3 b n j)
      = ((∑ o, f n o * f n o + ∑ o, g j o * g j o - 2 * ∑ o, f n o * g j o : ℝ) : EReal) := by
  pointwise [ReferenceIdeal.Stages.dist]
  simp only [hf, hg, two, ← EReal.coe_mul, ← coe_sum, ← EReal.coe_add, ← EReal.coe_sub]

variable (m : (ℓ : Loc nD τ sig) → Buf (Elt Ideal) ℓ) (c : Dev nD)

/-- The reference's squared distances of the arguments in the kernel's memory. -/
def dist : FVec Ideal ReferenceIdeal.S16x784x2048 .f32 :=
  ReferenceIdeal.Stages.dist (EmbedEq.embed m c) (m ((c : Thread nD τ).loc main_arg4))

/-- The squared distances at a point, less the squared norm of the embedding. -/
def restAt (t : Fin cfg0.N) : FVec Ideal S784x2048 .f32 :=
  Run.rest (iblk m c 0 t) (iblk m c 1 t) (iblk m c 2 t) (iblk m c 3 t) (iblk m c 4 t) (V m c main_arg4) (iblk m c 6 t)
    (k0_pay2 (V m c main_arg4))

/-- The squared norm of the embedding at a point. -/
def normAt (t : Fin cfg0.N) : FVec Ideal S784x1 .f32 :=
  Run.norm (iblk m c 0 t) (iblk m c 1 t) (iblk m c 2 t) (iblk m c 3 t) (iblk m c 4 t) (iblk m c 6 t)

/-- The kernel's squared distance is the reference's, and it is real. -/
theorem dist_eq (h0 : ∀ i, ∃ r : ℝ, m ((c : Thread nD τ).loc main_arg0) i = (r : EReal))
    (h1 : ∀ i, ∃ r : ℝ, m ((c : Thread nD τ).loc main_arg1) i = (r : EReal))
    (h2 : ∀ i, ∃ r : ℝ, m ((c : Thread nD τ).loc main_arg2) i = (r : EReal))
    (h3 : ∀ i, ∃ r : ℝ, m ((c : Thread nD τ).loc main_arg3) i = (r : EReal))
    (h4 : ∀ i, ∃ r : ℝ, m ((c : Thread nD τ).loc main_arg4) i = (r : EReal)) (b : Fin 16) (n : Fin 784) :
    ∃ d : Fin 2048 → ℝ, (∀ j, restAt m c (Grid.pt b) (ix2 n j) + normAt m c (Grid.pt b) (ix2 n 0) = (d j : EReal))
      ∧ ∀ j, dist m c (ix3 b n j) = (d j : EReal) := by
  obtain ⟨e, he, he'⟩ := EmbedEq.embed_eq m c h0 h1 h2 h3 b
  choose a4 h4 using h4
  have hV : ∀ j o, (V m c main_arg4 : FVec Ideal S2048x256 .f32) (ix2 j o) = (a4 (ix2 j o) : EReal) := by
    intro j o
    rw [V_main_arg4]
    exact h4 _
  have hn : ∀ j, _ := norms (V m c main_arg4) (fun j o => a4 (ix2 j o)) hV
  refine ⟨fun j => _, fun j => ?_, fun j => dist_real _ _ b e (fun j o => a4 (ix2 j o)) he' (fun j o => h4 _) n j⟩
  unfold restAt normAt Run.rest Run.norm
  unfold Grid.embAt Run.emb at he
  pointwise [k0_pay10, k0_pay11, k0_pay12]
  simp only [he, hn, hV, two, ← EReal.coe_mul, ← coe_sum, ← EReal.coe_add, ← EReal.coe_sub]
  congr 1
  ring

end Cert.DistEq
end
-- ==== Proof.Order.lean ====
module
public import Idealize.ShloMosaic.Lib.Pointwise
public import Idealize.ShloMosaic.Lib.SortFacts

/-! # The `k`-th least of finitely many extended reals

`kth f k` is the `k`-th least value of `f : Fin n → EReal` (counted from 0, with repetitions). It is fixed by how many
values lie below each threshold (`kth_le_iff`), it commutes with every monotone function (`kth_comp`), and it is what
the host's stable sort by "greater first" leaves at position `k`, up to the sign (`sortedFrom_greatest`). -/

@[expose] public section

noncomputable section

namespace Cert.Order

open Idealize.ShloMosaic

variable {n : ℕ}

/-- The places of `f` in the order of its values: the stable sort by "less first". -/
def places (f : Fin n → EReal) : Equiv.Perm (Fin n) :=
  Equiv.ofBijective (sortedFrom fun a b => decide (f a < f b)) ⟨sortedFrom_injective _, sortedFrom_surjective _⟩

/-- Read through its places, `f` is in order. -/
theorem monotone_places (f : Fin n → EReal) : Monotone (f ∘ places f) := by
  intro i j hij
  rcases hij.eq_or_lt with rfl | hlt
  · exact le_rfl
  have := sortedFrom_noInversion (fun a b => decide (f a < f b)) (fun a b => decide (f a < f b))
    (by simp only [decide_eq_true_eq, decide_eq_false_iff_not, not_lt]; intro a b h; exact h.le) (by simp)
    (by simp only [decide_eq_false_iff_not, not_lt]; intro a b c h1 h2; exact h2.trans h1) i j hlt
  exact not_lt.mp (of_decide_eq_false this)

/-- The `k`-th least value of `f`. -/
def kth (f : Fin n → EReal) (k : Fin n) : EReal := f (places f k)

open Classical in
/-- How many values of `f` are at most `t`. -/
def below (f : Fin n → EReal) (t : EReal) : ℕ := ∑ j, if f j ≤ t then 1 else 0

/-- In a family in order, the `k`-th value is at most `t` exactly when more than `k` values are. -/
theorem le_iff_of_monotone {g : Fin n → EReal} (hg : Monotone g) (k : Fin n) (t : EReal) :
    g k ≤ t ↔ k.val < below g t := by
  classical
  rw [below, ← Finset.card_filter]
  constructor
  · intro h
    have hs : Finset.Iic k ⊆ Finset.univ.filter (fun j => g j ≤ t) := fun j hj =>
      Finset.mem_filter.2 ⟨Finset.mem_univ _, (hg (Finset.mem_Iic.1 hj)).trans h⟩
    have := Finset.card_le_card hs
    rw [Fin.card_Iic] at this
    omega
  · intro h
    by_contra hk
    have hs : Finset.univ.filter (fun j => g j ≤ t) ⊆ Finset.Iio k := fun j hj => by
      refine Finset.mem_Iio.2 (lt_of_not_ge fun hkj => hk ?_)
      exact (hg hkj).trans (Finset.mem_filter.1 hj).2
    have := Finset.card_le_card hs
    rw [Fin.card_Iio] at this
    omega

/-- Rearranging the values does not change how many lie below a threshold. -/
theorem below_perm (f : Fin n → EReal) (σ : Equiv.Perm (Fin n)) (t : EReal) : below (f ∘ σ) t = below f t := by
  classical
  exact Equiv.sum_comp σ (fun j => if f j ≤ t then 1 else 0)

/-- The `k`-th least value is at most `t` exactly when more than `k` values are. -/
theorem kth_le_iff (f : Fin n → EReal) (k : Fin n) (t : EReal) : kth f k ≤ t ↔ k.val < below f t := by
  rw [← below_perm f (places f)]
  exact le_iff_of_monotone (monotone_places f) k t

/-- A value that lies below each threshold when more than `k` values do is the `k`-th least. -/
theorem eq_kth {f : Fin n → EReal} {k : Fin n} {x : EReal} (h : ∀ t, x ≤ t ↔ k.val < below f t) : x = kth f k :=
  eq_of_forall_ge_iff fun t => (h t).trans (kth_le_iff f k t).symm

/-- What stands at position `k` after any rearrangement that puts the values in order is the `k`-th least. -/
theorem kth_of_monotone (f : Fin n → EReal) (σ : Equiv.Perm (Fin n)) (h : Monotone (f ∘ σ)) (k : Fin n) :
    f (σ k) = kth f k :=
  eq_kth fun t => (le_iff_of_monotone h k t).trans (by rw [below_perm])

/-- The `k`-th least commutes with a monotone function. -/
theorem kth_comp (f : Fin n → EReal) {g : EReal → EReal} (hg : Monotone g) (k : Fin n) :
    kth (fun j => g (f j)) k = g (kth f k) :=
  (kth_of_monotone (fun j => g (f j)) (places f) (hg.comp (monotone_places f)) k).symm

/-- Later positions hold greater values. -/
theorem kth_mono (f : Fin n → EReal) : Monotone (kth f) := monotone_places f

/-- Every one of the ordered values is a value. -/
theorem exists_kth (f : Fin n → EReal) (k : Fin n) : ∃ j, kth f k = f j := ⟨_, rfl⟩

/-- The host's stable sort by "greater first" leaves at position `k` of a row of negated values the negation of the
    `k`-th least. -/
theorem sortedFrom_greatest (f x : Fin n → EReal) (hx : ∀ j, x j = -f j) (k : Fin n) :
    x (sortedFrom (fun a b => Ideal.cmp .ogt (x a) (x b) == 1#1) k) = -kth f k := by
  have hcmp : ∀ a b : Fin n, (Ideal.cmp .ogt (x a) (x b) == 1#1) = decide (f a < f b) := by
    intro a b
    rw [hx, hx]
    simp only [Ideal.cmp, EReal.neg_lt_neg_iff]
    by_cases h : f a < f b <;> simp [h]
  simp only [hcmp]
  rw [hx]
  rfl

end Cert.Order

end
-- ==== Proof.RefSelect.lean ====
module
public import proofs.«01_k».proof.Proof.RefStages
public import proofs.«01_k».proof.Proof.Order
public import Idealize.ShloMosaic.Lib.Pointwise

/-! # The reference's selection finds the least values of every row -/

@[expose] public section

set_option maxRecDepth 8192

noncomputable section

namespace Cert.ReferenceIdeal.Selected

open Cert Idealize.ShloMosaic Idealize.ShloMosaic.TcCoe Cert.ReferenceIdeal Cert.ReferenceIdeal.Gen Cert.Order

/-- An index with its last coordinate replaced. -/
theorem along (i : S16x784x2048.Idx) (b : Fin 16) (n : Fin 784) (h0 : i 0 = b) (h1 : i 1 = n) (j : Fin 2048) :
    i.along 2 j = ix3 b n j := by
  funext a
  match a with
  | ⟨0, _⟩ => exact h0
  | ⟨1, _⟩ => exact h1
  | ⟨2, _⟩ => rfl

/-- The greatest of the negated values are the negations of the least values. -/
theorem top {K : ℕ} (hK : K ≤ 2048) (x : FVec Ideal S16x784x2048 .f32) (h : S16x784x2048.Slices (fun _ => 0) ⟨3, ![16, 784, K]⟩)
    (b : Fin 16) (n : Fin 784) (f : Fin 2048 → EReal) (hx : ∀ j, x (ix3 b n j) = -f j) (k : Fin K) :
    (Host.topK ⟨3, ![16, 784, K]⟩ 2 (FloatOps.cmpfTotal (F := Ideal) (φ := .f32) .gt) x h).1 (ix3 b n k)
      = -kth f ⟨k.val, lt_of_lt_of_le k.isLt hK⟩ := by
  have key := sortedFrom_greatest f (fun j => x (ix3 b n j)) hx ⟨k.val, lt_of_lt_of_le k.isLt hK⟩
  have hg : ∀ g : Fin 2048 → S16x784x2048.Idx, g = (fun p => ix3 b n p) →
      x (g (sortedFrom (fun p q => Ideal.cmp .ogt (x (g p)) (x (g q)) == 1#1) ⟨k.val, lt_of_lt_of_le k.isLt hK⟩))
        = -kth f ⟨k.val, lt_of_lt_of_le k.isLt hK⟩ := by
    rintro _ rfl
    exact key
  have hi : ∀ (i : S16x784x2048.Idx), i 0 = b → i 1 = n → i 2 = (⟨k.val, lt_of_lt_of_le k.isLt hK⟩ : Fin 2048) →
      x (i.along 2 (sortedFrom (fun p q => Ideal.cmp .ogt (x (i.along 2 p)) (x (i.along 2 q)) == 1#1) (i 2)))
        = -kth f ⟨k.val, lt_of_lt_of_le k.isLt hK⟩ := by
    intro i h0 h1 h2
    simp only [h2]
    exact hg (fun p => i.along 2 p) (funext (along i b n h0 h1))
  exact hi _ (Fin.ext (Nat.zero_add _)) (Fin.ext (Nat.zero_add _)) (Fin.ext (Nat.zero_add _))

/-- The root of the extended reals is monotone. -/
theorem sqrt_mono : Monotone Ideal.sqrt := by
  intro x y h
  induction x with
  | bot => exact bot_le
  | top => rw [top_le_iff.mp h]
  | coe x =>
    induction y with
    | bot => exact absurd (le_bot_iff.mp h) (EReal.coe_ne_bot x)
    | top => exact le_top
    | coe y =>
      have h' : x ≤ y := EReal.coe_le_coe_iff.mp h
      show (if x < 0 then ⊥ else (Real.sqrt x : EReal)) ≤ (if y < 0 then ⊥ else (Real.sqrt y : EReal))
      by_cases hx : x < 0
      · rw [if_pos hx]
        exact bot_le
      · rw [if_neg hx, if_neg (by linarith), EReal.coe_le_coe_iff]
        exact Real.sqrt_le_sqrt h'

/-- The distance of a squared distance: the root of what is at least the smallest allowed. -/
def root (x : EReal) : EReal := Ideal.sqrt (max x (Ideal.ofBits .f32 0x2B8CBCCC#32))

/-- The distance is monotone in the squared distance. -/
theorem root_mono : Monotone root := fun _ _ h => sqrt_mono (max_le_max_right _ h)

/-- The six least squared distances of a pixel. -/
theorem near6 (d : FVec Ideal S16x784x2048 .f32) (b : Fin 16) (n : Fin 784) (k : Fin 6) :
    Stages.near6 d (ix3 b n k) = kth (fun j => d (ix3 b n j)) (⟨k.val, by omega⟩ : Fin 2048) := by
  have h := top (K := 6) (by decide) (Host.negf d) sliceFits_S16x784x2048_S16x784x6 b n (fun j => d (ix3 b n j)) (fun j => rfl) k
  exact (congrArg (- ·) h).trans (neg_neg _)

/-- The three least distances of a pixel. -/
theorem near3 (d : FVec Ideal S16x784x2048 .f32) (b : Fin 16) (n : Fin 784) (k : Fin 3) :
    Stages.near3 d (ix3 b n k) = root (kth (fun j => d (ix3 b n j)) (⟨k.val, by omega⟩ : Fin 2048)) := by
  rw [← kth_comp _ root_mono]
  have h := top (K := 3) (by decide) (Host.negf (Host.sqrt (maximumf d
    (broadcastInDim S16x784x2048 ![] bcast_S_S16x784x2048 (constant S_ .f32 0x2B8CBCCC#32))))) sliceFits_S16x784x2048_S16x784x3
    b n (fun j => root (d (ix3 b n j))) (fun j => rfl) k
  exact (congrArg (- ·) h).trans (neg_neg _)

end Cert.ReferenceIdeal.Selected
end
-- ==== Proof.SelectValue.lean ====
module
public import proofs.«01_k».proof.Proof.Select
public import proofs.«01_k».proof.Proof.Order
public import Idealize.ShloMosaic.Lib.Pointwise

/-! # The kernel's selection finds the six least values of every row

For a threshold, the six wires of a lane count how many of the lane's values are at most the threshold, and every merge
adds the counts of the two lanes it merges. After the last merge the first lane counts the whole row. -/

@[expose] public section

noncomputable section

namespace Cert.KernelIdeal.Select

open Idealize.ShloMosaic Cert.KernelIdeal Cert.KernelIdeal.Gen Cert.Net Cert.Order

/-- The minimum and the maximum of arrays split "at most the threshold" at an index. -/
theorem splits {s : Shape} (i : s.Idx) (t : EReal) :
    Splits (fun x : FVec Ideal s .f32 => x i ≤ t) (minimumf (F := Ideal)) (maximumf (F := Ideal)) where
  mn_iff a b := (min_le_iff : min (a i) (b i) ≤ t ↔ _)
  mx_iff a b := (max_le_iff : max (a i) (b i) ≤ t ↔ _)

/-- In the first `N` lanes of a row, the six wires count `f`. -/
def Lanes (n : Fin 784) (t : EReal) (N : ℕ) (w : Six (FVec Ideal S784x128 .f32)) (f : ℕ → ℕ) : Prop :=
  ∀ l : Fin 128, l.val < N → w.Counts (fun x => x (ix2 n l) ≤ t) (f l.val)

/-- The same, with the lanes along the rows. -/
def Rows (n : Fin 784) (t : EReal) (N : ℕ) (w : Six (FVec Ideal S32x784 .f32)) (f : ℕ → ℕ) : Prop :=
  ∀ l : Fin 32, l.val < N → w.Counts (fun x => x (ix2 l n) ≤ t) (f l.val)

/-- A lane joined with the one `s` further. -/
def join (s : ℕ) (f : ℕ → ℕ) (l : ℕ) : ℕ := f l + f (l + s)

/-- Joining the first half of the lanes with the second keeps the sum. -/
theorem sum_join (s : ℕ) (f : ℕ → ℕ) : ∑ l ∈ Finset.range s, join s f l = ∑ l ∈ Finset.range (s + s), f l := by
  rw [Finset.sum_range_add, ← Finset.sum_add_distrib]
  exact Finset.sum_congr rfl fun l _ => by rw [join, Nat.add_comm l s]

/-- A roll along the columns, at a lane that stays inside. -/
theorem roll_cols {s : ℕ} {b : BitVec 32} (hs : b.toNat + s = 128) (x : FVec Ideal S784x128 .f32) (n : Fin 784) (l : Fin 128)
    (hl : l.val + s < 128) : dynamicRotate 1 b none x rotates_S784x128_d1 (ix2 n l) = x (ix2 n ⟨l.val + s, hl⟩) := by
  refine congrArg x (funext fun a => ?_)
  match a with
  | ⟨0, _⟩ => rfl
  | ⟨1, _⟩ => exact Fin.ext (show (l.val + 128 - (b.toNat + 0) % 128) % 128 = l.val + s by omega)

/-- A roll along the rows, at a row that stays inside. -/
theorem roll_rows {s : ℕ} {b : BitVec 32} (hs : b.toNat + s = 32) (x : FVec Ideal S32x784 .f32) (l : Fin 32) (n : Fin 784)
    (hl : l.val + s < 32) : dynamicRotate 0 b none x rotates_S32x784_d0 (ix2 l n) = x (ix2 ⟨l.val + s, hl⟩ n) := by
  refine congrArg x (funext fun a => ?_)
  match a with
  | ⟨0, _⟩ => exact Fin.ext (show (l.val + 32 - (b.toNat + 0) % 32) % 32 = l.val + s by omega)
  | ⟨1, _⟩ => rfl

/-- One merge along the columns. -/
theorem rollCols_lanes {n : Fin 784} {t : EReal} {s : ℕ} {b : BitVec 32} (hs : b.toNat + s = 128) (h2 : s + s ≤ 128)
    {w : Six (FVec Ideal S784x128 .f32)} {f : ℕ → ℕ} (h : Lanes n t (s + s) w f) : Lanes n t s (rollCols b w) (join s f) := by
  intro l hl
  have hls : l.val + s < 128 := by omega
  refine merge66_counts (splits _ t) (h l (by omega)) ?_
  have k := h ⟨l.val + s, hls⟩ (by dsimp only; omega)
  simp only [Six.Counts, Six.map, roll_cols hs _ n l hls] at k ⊢
  exact k

/-- One merge along the rows. -/
theorem rollRows_rows {n : Fin 784} {t : EReal} {s : ℕ} {b : BitVec 32} (hs : b.toNat + s = 32) (h2 : s + s ≤ 32)
    {w : Six (FVec Ideal S32x784 .f32)} {f : ℕ → ℕ} (h : Rows n t (s + s) w f) : Rows n t s (rollRows b w) (join s f) := by
  intro l hl
  have hls : l.val + s < 32 := by omega
  refine merge66_counts (splits _ t) (h l (by omega)) ?_
  have k := h ⟨l.val + s, hls⟩ (by dsimp only; omega)
  simp only [Six.Counts, Six.map, roll_rows hs _ l n hls] at k ⊢
  exact k

/-- Turning the lanes into rows. -/
theorem turn_rows {n : Fin 784} {t : EReal} {w : Six (FVec Ideal S784x128 .f32)} {f : ℕ → ℕ} (h : Lanes n t 32 w f) :
    Rows n t 32 (turn w) f := by
  intro l hl
  have e : ∀ x : FVec Ideal S784x128 .f32, transpose S32x784 [1, 0] (extractStridedSlice S784x32 ![0, 0] x slices_S784x128_o0_0_S784x32)
      transposes_S784x32_p1_0_S32x784 (ix2 l n) = x (ix2 n ⟨l.val, by omega⟩) := by
    intro x
    pointwise []
  have k := h ⟨l.val, by omega⟩ hl
  simp only [Six.Counts, turn, Six.map, e] at k ⊢
  exact k

/-- The blocks of a row. -/
theorem block (v : FVec Ideal S784x2048 .f32) (k : Fin 16) (n : Fin 784) (l : Fin 128) :
    blocks v k (ix2 n l) = v (ix2 n ⟨128 * k.val + l.val, by omega⟩) := by
  fin_cases k <;> pointwise [blocks, k0_pay13, k0_pay14, k0_pay15, k0_pay16, k0_pay17, k0_pay18, k0_pay19, k0_pay20,
    k0_pay21, k0_pay22, k0_pay23, k0_pay24, k0_pay25, k0_pay26, k0_pay27, k0_pay28]

/-- One for a value of a row at most the threshold. -/
def mark (v : FVec Ideal S784x2048 .f32) (n : Fin 784) (t : EReal) (j : ℕ) : ℕ :=
  if h : j < 2048 then one (fun x : EReal => x ≤ t) (v (ix2 n ⟨j, h⟩)) else 0

/-- What the sixteen blocks count in a lane. -/
def lane (v : FVec Ideal S784x2048 .f32) (n : Fin 784) (t : EReal) (l : ℕ) : ℕ :=
  ∑ k ∈ Finset.range 16, mark v n t (128 * k + l)

/-- The sorted blocks count every lane. -/
theorem lanes_lanes (v : FVec Ideal S784x2048 .f32) (n : Fin 784) (t : EReal) : Lanes n t 128 (lanes v) (lane v n t) := by
  intro l _
  have k := sort16_counts (splits (ix2 n l) t) (blocks v)
  have e : ∑ k, one (fun x : FVec Ideal S784x128 .f32 => x (ix2 n l) ≤ t) (blocks v k) = lane v n t l.val := by
    rw [lane, Finset.sum_range]
    refine Finset.sum_congr rfl fun k _ => ?_
    rw [mark, dif_pos (by omega)]
    unfold one
    simp only [block]
    congr
  rw [e] at k
  exact k

/-- Summing in blocks. -/
theorem sum_blocks (f : ℕ → ℕ) (a b : ℕ) : ∑ l ∈ Finset.range b, ∑ k ∈ Finset.range a, f (b * k + l) = ∑ j ∈ Finset.range (b * a), f j := by
  rw [Finset.sum_comm]
  induction a with
  | zero => simp
  | succ a ih => rw [Finset.sum_range_succ, ih, Nat.mul_succ, Finset.sum_range_add]

/-- The lanes together count the row. -/
theorem sum_lane (v : FVec Ideal S784x2048 .f32) (n : Fin 784) (t : EReal) :
    ∑ l ∈ Finset.range 128, lane v n t l = below (fun j => v (ix2 n j)) t := by
  unfold lane
  rw [sum_blocks, Finset.sum_range]
  unfold below
  refine Finset.sum_congr rfl fun j _ => ?_
  rw [mark, dif_pos j.isLt]
  unfold one
  congr

/-- The six wires of the first row after the last merge count the whole row. -/
theorem rows_counts (v : FVec Ideal S784x2048 .f32) (n : Fin 784) (t : EReal) :
    (rows (turn (cols v))).Counts (fun x => x (ix2 0 n) ≤ t) (below (fun j => v (ix2 n j)) t) := by
  have a : Lanes n t 32 (cols v) _ := rollCols_lanes (s := 32) (by decide) (by decide)
    (rollCols_lanes (s := 64) (by decide) (by decide) (lanes_lanes v n t))
  have b : Rows n t 1 (rows (turn (cols v))) _ := rollRows_rows (s := 1) (by decide) (by decide)
    (rollRows_rows (s := 2) (by decide) (by decide) (rollRows_rows (s := 4) (by decide) (by decide)
      (rollRows_rows (s := 8) (by decide) (by decide) (rollRows_rows (s := 16) (by decide) (by decide) (turn_rows a)))))
  have k := b 0 (by decide)
  have e := Finset.sum_range_one (join 1 (join 2 (join 4 (join 8 (join 16 (join 32 (join 64 (lane v n t))))))))
  simp only [sum_join, Nat.reduceAdd, sum_lane] at e
  rw [e]
  exact k

/-- The six selected rows hold the six least values of every row. -/
theorem least_value (v : FVec Ideal S784x2048 .f32) (n : Fin 784) (k : Fin 6) :
    (least v).get k (ix2 0 n) = kth (fun j => v (ix2 n j)) (⟨k.val, by omega⟩ : Fin 2048) := by
  refine eq_kth fun t => ?_
  have e : ∀ x : FVec Ideal S32x784 .f32, extractStridedSlice S1x784 ![0, 0] x slices_S32x784_o0_0_S1x784 (ix2 0 n) = x (ix2 0 n) := by
    intro x
    pointwise []
  obtain ⟨c0, c1, c2, c3, c4, c5⟩ := rows_counts v n t
  fin_cases k
  · exact (iff_of_eq (congrArg (· ≤ t) (e _))).trans c0
  · exact (iff_of_eq (congrArg (· ≤ t) (e _))).trans c1
  · exact (iff_of_eq (congrArg (· ≤ t) (e _))).trans c2
  · exact (iff_of_eq (congrArg (· ≤ t) (e _))).trans c3
  · exact (iff_of_eq (congrArg (· ≤ t) (e _))).trans c4
  · exact (iff_of_eq (congrArg (· ≤ t) (e _))).trans c5

/-- Adding one real to every value of a row moves the selected values by as much. -/
theorem nearest_value (v : FVec Ideal S784x2048 .f32) (en : FVec Ideal S784x1 .f32) (n : Fin 784) (k : Fin 6) :
    (nearest v en).get k (ix2 0 n) = kth (fun j => v (ix2 n j) + en (ix2 n 0)) (⟨k.val, by omega⟩ : Fin 2048) := by
  have e : ∀ x : FVec Ideal S1x784 .f32, addf x (transpose S1x784 [1, 0] en transposes_S784x1_p1_0_S1x784) (ix2 0 n)
      = x (ix2 0 n) + en (ix2 n 0) := by
    intro x
    pointwise []
  rw [kth_comp (fun j => v (ix2 n j)) (g := fun x => x + en (ix2 n 0)) (fun _ _ h => add_le_add_left h _), ← least_value]
  fin_cases k <;> exact e _

end Cert.KernelIdeal.Select
end
-- ==== Proof.SelectEq.lean ====
module
public import proofs.«01_k».proof.Proof.DistEq
public import proofs.«01_k».proof.Proof.RefSelect
public import proofs.«01_k».proof.Proof.SelectValue

/-! # Both programs select the same six squared distances -/

@[expose] public section

noncomputable section

namespace Cert.SelectEq

open Cert Idealize.ShloMosaic Idealize.ShloMosaic.TcCoe Cert.KernelIdeal Cert.KernelIdeal.Gen Cert.Order

variable (m : (ℓ : Loc nD τ sig) → Buf (Elt Ideal) ℓ) (c : Dev nD)

/-- Every entry of the images, the weights, the bias and the centroids is a real. -/
def Reals : Prop :=
  (∀ i, ∃ r : ℝ, m ((c : Thread nD τ).loc main_arg0) i = (r : EReal)) ∧ (∀ i, ∃ r : ℝ, m ((c : Thread nD τ).loc main_arg1) i = (r : EReal))
    ∧ (∀ i, ∃ r : ℝ, m ((c : Thread nD τ).loc main_arg2) i = (r : EReal)) ∧ (∀ i, ∃ r : ℝ, m ((c : Thread nD τ).loc main_arg3) i = (r : EReal))
    ∧ ∀ i, ∃ r : ℝ, m ((c : Thread nD τ).loc main_arg4) i = (r : EReal)

/-- At every pixel both programs select the same six reals, in order. -/
theorem selected (h : Reals m c) (b : Fin 16) (n : Fin 784) :
    ∃ t : Fin 6 → ℝ, Monotone t ∧ (∀ k, (Grid.sixAt m c (Grid.pt b)).get k (ix2 0 n) = (t k : EReal))
      ∧ (∀ k, ReferenceIdeal.Stages.near6 (DistEq.dist m c) (ix3 b n k) = (t k : EReal))
      ∧ ∀ k : Fin 3, ReferenceIdeal.Stages.near3 (DistEq.dist m c) (ix3 b n k)
        = ReferenceIdeal.Selected.root (t ⟨k.val, by omega⟩ : EReal) := by
  obtain ⟨h0, h1, h2, h3, h4⟩ := h
  obtain ⟨d, hd, hd'⟩ := DistEq.dist_eq m c h0 h1 h2 h3 h4 b n
  have e : ∀ k : Fin 6, ∃ t : ℝ, kth (fun j => (d j : EReal)) (⟨k.val, by omega⟩ : Fin 2048) = (t : EReal) := by
    intro k
    obtain ⟨j, hj⟩ := exists_kth (fun j => (d j : EReal)) (⟨k.val, by omega⟩ : Fin 2048)
    exact ⟨d j, hj⟩
  choose t ht using e
  have hl : (fun j => DistEq.dist m c (ix3 b n j)) = fun j => (d j : EReal) := funext hd'
  refine ⟨t, fun k l hkl => ?_, fun k => ?_, fun k => ?_, fun k => ?_⟩
  · rw [← EReal.coe_le_coe_iff, ← ht, ← ht]
    exact kth_mono _ hkl
  · rw [← ht]
    refine (Select.nearest_value (DistEq.restAt m c (Grid.pt b)) (DistEq.normAt m c (Grid.pt b)) n k).trans ?_
    exact congrArg (fun f => kth f _) (funext hd)
  · rw [ReferenceIdeal.Selected.near6, hl, ht]
  · rw [ReferenceIdeal.Selected.near3, hl, ← ht]

end Cert.SelectEq
end
-- ==== Proof.LossEq.lean ====
module
public import proofs.«01_k».proof.Proof.SelectEq

/-! # The kernel's loss is the reference's

The kernel sums both penalties over the pixels of an image, scales the sum, and adds the sixteen results up, one grid point
after the other. The reference takes the mean of each penalty over all the images, pixels and centroids at once. -/

@[expose] public section

noncomputable section

namespace Cert.LossEq

open Cert Idealize.ShloMosaic Idealize.ShloMosaic.TcCoe Cert.KernelIdeal Cert.KernelIdeal.Gen

/-- The margin is a real. -/
theorem margin : ∃ e : ℝ, Ideal.ofBits .f32 0x3DCCCCCD#32 = (e : EReal) :=
  ⟨_, by simp [Ideal.ofBits, Ideal.ieee, -EReal.coe_mul]; rfl⟩

/-- The factor of the loss. -/
theorem thousand : Ideal.ofBits .f32 0x447A0000#32 = ((1000 : ℝ) : EReal) := by
  simp [Ideal.ofBits, Ideal.ieee, -EReal.coe_mul]; norm_num

/-- The number of penalties. -/
theorem count : Ideal.ofBits .f32 0x47130000#32 = ((37632 : ℝ) : EReal) := by
  simp [Ideal.ofBits, Ideal.ieee, -EReal.coe_mul]; norm_num

/-- The scale of the loss. -/
theorem scale : Named.named (F := Ideal) κ "loss_scale" (φ := .f32) 0x3CD9AFE4#32 = ((125 / 4704 : ℝ) : EReal) :=
  IdealRules.named_const.ideal_named_scalar _ _ _ _ rfl

/-- The positive part of a real. -/
theorem positive (x : ℝ) : max (x : EReal) 0 = ((max x 0 : ℝ) : EReal) := by
  rw [← EReal.coe_zero, ← EReal.coe_strictMono.monotone.map_max]

/-- The six penalties of a pixel: what the three nearest exceed the squared radius by, and what the next three lack of the squared
radius and the margin. -/
def pixel (q e : ℝ) (t : Fin 6 → ℝ) (k : Fin 3) : ℝ × ℝ :=
  (max (t ⟨k.val, by omega⟩ - q) 0, max (q + e - t ⟨3 + k.val, by omega⟩) 0)

/-- The loss of one image. -/
def image (q e : ℝ) (t : Fin 784 → Fin 6 → ℝ) : ℝ :=
  ((∑ n, ∑ k, (pixel q e (t n) k).1) + ∑ n, ∑ k, (pixel q e (t n) k).2) * (125 / 4704)

/-- The kernel's loss of six selected rows of reals. -/
theorem kernel_image (d : Net.Six (FVec Ideal S1x784 .f32)) (r : FVec Ideal S1x1 .f32) (ρ e : ℝ) (t : Fin 784 → Fin 6 → ℝ) (hr : r (ix2 0 0) = (ρ : EReal))
    (he : Ideal.ofBits .f32 0x3DCCCCCD#32 = (e : EReal)) (hd : ∀ n k, d.get k (ix2 0 n) = (t n k : EReal)) :
    Select.loss d r = (image (ρ * ρ) e t : EReal) := by
  have h0 : ∀ n, d.w0 (ix2 0 n) = (t n 0 : EReal) := fun n => hd n 0
  have h1 : ∀ n, d.w1 (ix2 0 n) = (t n 1 : EReal) := fun n => hd n 1
  have h2 : ∀ n, d.w2 (ix2 0 n) = (t n 2 : EReal) := fun n => hd n 2
  have h3 : ∀ n, d.w3 (ix2 0 n) = (t n 3 : EReal) := fun n => hd n 3
  have h4 : ∀ n, d.w4 (ix2 0 n) = (t n 4 : EReal) := fun n => hd n 4
  have h5 : ∀ n, d.w5 (ix2 0 n) = (t n 5 : EReal) := fun n => hd n 5
  pointwise [Select.loss, k0_pay244, k0_pay243, k0_pay242]
  simp only [Finset.univ_unique, Finset.sum_singleton, hr, he, h0, h1, h2, h3, h4, h5, scale, ← EReal.coe_mul, ← EReal.coe_add,
    ← EReal.coe_sub, positive, ← ReferenceIdeal.Embed.coe_sum]
  simp only [image, pixel, Fin.sum_univ_three]
  rfl

/-- The reference's loss of real selected distances. -/
theorem reference (x : FVec Ideal ReferenceIdeal.S16x784x6 .f32) (r : FVec Ideal ReferenceIdeal.S1 .f32) (ρ e : ℝ)
    (t : Fin 16 → Fin 784 → Fin 6 → ℝ) (hr : r (ix1 0) = (ρ : EReal)) (he : Ideal.ofBits .f32 0x3DCCCCCD#32 = (e : EReal))
    (hx : ∀ b n k, x (ix3 b n k) = (t b n k : EReal)) :
    ReferenceIdeal.Stages.loss x r (ix2 0 0) = ((∑ b, image (ρ * ρ) e (t b) : ℝ) : EReal) := by
  pointwise [ReferenceIdeal.Stages.loss, ReferenceIdeal.Stages.penalty, ReferenceIdeal.Stages.radius]
  simp only [hr, he, hx, thousand, count, ← EReal.coe_mul, ← EReal.coe_add, ← EReal.coe_sub, positive, ← ReferenceIdeal.Embed.coe_sum]
  rw [ReferenceIdeal.Embed.div_coe _ _ (by norm_num), ReferenceIdeal.Embed.div_coe _ _ (by norm_num), ← EReal.coe_mul, ← EReal.coe_mul,
    ← EReal.coe_add, EReal.coe_eq_coe_iff]
  simp only [image, pixel, ← Finset.sum_mul, Finset.sum_add_distrib]
  have e : ∀ p q v : ℝ, p + q - v = p - v + q := by intros; ring
  simp only [e]
  ring

/-- A real less the top. -/
theorem lack (x : ℝ) : (x : EReal) - ⊤ = ⊥ := by rw [sub_eq_add_neg, EReal.neg_top, EReal.add_bot]

/-- A sum of tops. -/
theorem sum_top (n : ℕ) (h : 0 < n) : ∑ _ : Fin n, (⊤ : EReal) = ⊤ := by
  obtain ⟨n, rfl⟩ := Nat.exists_eq_succ_of_ne_zero h.ne'
  induction n with
  | zero => simp
  | succ n ih => rw [Fin.sum_univ_succ, ih n.succ_pos, EReal.top_add_top]

/-- Under an infinite squared radius the kernel's loss of an image is infinite. -/
theorem kernel_top (d : Net.Six (FVec Ideal S1x784 .f32)) (r : FVec Ideal S1x1 .f32) (t : Fin 784 → Fin 6 → ℝ)
    (hr : r (ix2 0 0) * r (ix2 0 0) = ⊤) (hd : ∀ n k, d.get k (ix2 0 n) = (t n k : EReal)) : Select.loss d r = ⊤ := by
  obtain ⟨e, he⟩ := margin
  have h0 : ∀ n, d.w0 (ix2 0 n) = (t n 0 : EReal) := fun n => hd n 0
  have h1 : ∀ n, d.w1 (ix2 0 n) = (t n 1 : EReal) := fun n => hd n 1
  have h2 : ∀ n, d.w2 (ix2 0 n) = (t n 2 : EReal) := fun n => hd n 2
  have h3 : ∀ n, d.w3 (ix2 0 n) = (t n 3 : EReal) := fun n => hd n 3
  have h4 : ∀ n, d.w4 (ix2 0 n) = (t n 4 : EReal) := fun n => hd n 4
  have h5 : ∀ n, d.w5 (ix2 0 n) = (t n 5 : EReal) := fun n => hd n 5
  pointwise [Select.loss, k0_pay244, k0_pay243, k0_pay242]
  simp only [Finset.univ_unique, Finset.sum_singleton, hr, he, h0, h1, h2, h3, h4, h5, scale, lack, EReal.top_add_coe,
    EReal.top_sub_coe, max_eq_right (bot_le : (⊥ : EReal) ≤ 0), max_eq_left (le_top : (0 : EReal) ≤ ⊤), add_zero, Finset.sum_const_zero,
    EReal.top_add_top, sum_top 784 (by decide), zero_add]
  exact EReal.top_mul_coe_of_pos (by norm_num)

/-- Under an infinite squared radius the reference's loss is infinite. -/
theorem reference_top (x : FVec Ideal ReferenceIdeal.S16x784x6 .f32) (r : FVec Ideal ReferenceIdeal.S1 .f32)
    (t : Fin 16 → Fin 784 → Fin 6 → ℝ) (hr : r (ix1 0) * r (ix1 0) = ⊤) (hx : ∀ b n k, x (ix3 b n k) = (t b n k : EReal)) :
    ReferenceIdeal.Stages.loss x r (ix2 0 0) = ⊤ := by
  obtain ⟨e, he⟩ := margin
  pointwise [ReferenceIdeal.Stages.loss, ReferenceIdeal.Stages.penalty, ReferenceIdeal.Stages.radius]
  simp only [hr, he, hx, thousand, count, lack, EReal.top_add_coe,
    EReal.top_sub_coe, max_eq_right (bot_le : (⊥ : EReal) ≤ 0), max_eq_left (le_top : (0 : EReal) ≤ ⊤), Finset.sum_const_zero,
    sum_top 3 (by decide), sum_top 784 (by decide), sum_top 16 (by decide)]
  have h : ((37632 : ℝ) : EReal) ≠ 0 := by
    rw [← EReal.coe_zero, Ne, EReal.coe_eq_coe_iff]
    norm_num
  have hz : Ideal.div 0 ((37632 : ℝ) : EReal) = 0 := by rw [Ideal.div, if_neg h, zero_mul]
  have ht : Ideal.div ⊤ ((37632 : ℝ) : EReal) = ⊤ := by
    rw [Ideal.div, if_neg h, ← EReal.coe_inv]
    exact EReal.top_mul_coe_of_pos (by norm_num)
  rw [hz, ht, mul_zero, zero_add]
  exact EReal.coe_mul_top_of_pos (by norm_num)

variable (m : (ℓ : Loc nD τ sig) → Buf (Elt Ideal) ℓ) (c : Dev nD)

/-- The accumulated loss after a grid point is the sum of the losses of the images up to it. -/
theorem accumulated (L : ℕ → ℝ) (hL : ∀ n h, Grid.addAt m c ⟨n, h⟩ = (L n : EReal)) : ∀ n h,
    Grid.lossAt m c n h (ix2 0 0) = ((∑ i ∈ Finset.range (n + 1), L i : ℝ) : EReal)
  | 0, h => by
    rw [Grid.lossAt, hL]
    pointwise [k0_pay1, k0_pay245]
    simp
  | n + 1, h => by
    have := accumulated L hL n (Nat.lt_of_succ_lt h)
    rw [Grid.lossAt, hL]
    pointwise [k0_pay1]
    rw [this, ← EReal.coe_add, Finset.sum_range_succ _ (n + 1)]

/-- If every grid point adds the top, the accumulated loss is the top. -/
theorem accumulated_top (hL : ∀ t, Grid.addAt m c t = ⊤) : ∀ n h, Grid.lossAt m c n h (ix2 0 0) = ⊤
  | 0, h => by
    rw [Grid.lossAt, hL]
    pointwise [k0_pay1, k0_pay245]
  | n + 1, h => by
    have := accumulated_top hL n (Nat.lt_of_succ_lt h)
    rw [Grid.lossAt, hL]
    pointwise [k0_pay1]
    rw [this, EReal.top_add_top]

/-- The two losses agree, whatever the radius. -/
theorem loss_eq (h : SelectEq.Reals m c) (hn) :
    Grid.lossAt m c 15 hn (ix2 0 0)
      = ReferenceIdeal.Stages.loss (ReferenceIdeal.Stages.near6 (DistEq.dist m c)) (m ((c : Thread nD τ).loc main_arg5)) (ix2 0 0) := by
  obtain ⟨e, he⟩ := margin
  have hs : ∀ b n, ∃ t : Fin 6 → ℝ, (∀ k, (Grid.sixAt m c (Grid.pt b)).get k (ix2 0 n) = (t k : EReal))
      ∧ ∀ k, ReferenceIdeal.Stages.near6 (DistEq.dist m c) (ix3 b n k) = (t k : EReal) := fun b n =>
    let ⟨t, _, hk, h6, _⟩ := SelectEq.selected m c h b n
    ⟨t, hk, h6⟩
  choose t hk h6 using hs
  have infinite : ∀ q : EReal, m ((c : Thread nD τ).loc main_arg5) (ix1 0) = q → q * q = ⊤ → Grid.lossAt m c 15 hn (ix2 0 0)
      = ReferenceIdeal.Stages.loss (ReferenceIdeal.Stages.near6 (DistEq.dist m c)) (m ((c : Thread nD τ).loc main_arg5)) (ix2 0 0) := by
    intro q hq hqq
    refine (accumulated_top m c (fun p => ?_) 15 hn).trans (reference_top _ _ t (by rw [hq]; exact hqq) h6).symm
    have h16 : p.val < 16 := lt_of_lt_of_eq p.isLt N_0
    exact kernel_top _ _ (t ⟨p.val, h16⟩) (by rw [Inputs.radius, hq]; exact hqq) (hk ⟨p.val, h16⟩)
  rcases hq : (m ((c : Thread nD τ).loc main_arg5) (ix1 0) : EReal) with _ | _ | ρ
  · exact infinite ⊥ hq EReal.bot_mul_bot
  · exact infinite ⊤ hq EReal.top_mul_top
  · refine (accumulated m c (fun n => if h : n < 16 then image (ρ * ρ) e (t ⟨n, h⟩) else 0) (fun n hn => ?_) 15 hn).trans
      (Eq.trans ?_ (reference _ _ ρ e t hq he h6).symm)
    · have h16 : n < 16 := lt_of_lt_of_eq hn N_0
      rw [dif_pos h16]
      exact kernel_image _ _ ρ e (t ⟨n, h16⟩) ((Inputs.radius m c _).trans hq) he (hk ⟨n, h16⟩)
    · rw [EReal.coe_eq_coe_iff, Finset.sum_range]
      exact Finset.sum_congr rfl fun b _ => dif_pos b.isLt

end Cert.LossEq
end
-- ==== Proof.ScoreEq.lean ====
module
public import proofs.«01_k».proof.Proof.SelectEq

/-! # The kernel's score is the reference's

The kernel divides by the sum of the exponentials of the differences to the least distance; the reference takes a softmax
of the negated distances, which subtracts their maximum. -/

@[expose] public section

noncomputable section

namespace Cert.ScoreEq

open Cert Idealize.ShloMosaic Idealize.ShloMosaic.TcCoe Cert.KernelIdeal Cert.KernelIdeal.Gen

/-- The smallest allowed squared distance is a positive real. -/
theorem least : ∃ e : ℝ, 0 < e ∧ Ideal.ofBits .f32 0x2B8CBCCC#32 = (e : EReal) := by
  refine ⟨_, ?_, by simp [Ideal.ofBits, Ideal.ieee, -EReal.coe_mul]; rfl⟩
  norm_num

/-- The distance of a real is a real. -/
theorem root_real : ∃ f : ℝ → ℝ, Monotone f ∧ ∀ x : ℝ, ReferenceIdeal.Selected.root (x : EReal) = (f x : EReal) := by
  obtain ⟨e, he, hw⟩ := least
  have h : ∀ x : ℝ, ReferenceIdeal.Selected.root (x : EReal) = (Real.sqrt (max x e) : EReal) := by
    intro x
    unfold ReferenceIdeal.Selected.root
    rw [hw, ← EReal.coe_strictMono.monotone.map_max]
    exact if_neg (not_lt.mpr (he.le.trans (le_max_right _ _)))
  refine ⟨fun x => Real.sqrt (max x e), fun x y hxy => ?_, h⟩
  exact Real.sqrt_le_sqrt (max_le_max_right _ hxy)

/-- The word of the bottom. -/
theorem bottom : Ideal.ofBits .f32 0xFF800000#32 = ⊥ := by
  simp [Ideal.ofBits, Ideal.ieee]

/-- The maximum of the negated distances is the negated least distance. -/
theorem maximum (s : Fin 3 → ℝ) (h : ∀ k, s 0 ≤ s k) :
    max ⊥ (Finset.fold max ⊥ (fun k : Fin 3 => ((-s k : ℝ) : EReal)) Finset.univ) = ((-s 0 : ℝ) : EReal) := by
  rw [max_eq_right bot_le]
  refine le_antisymm (Finset.fold_max_le _ |>.mpr ⟨bot_le, fun k _ => ?_⟩) (Finset.le_fold_max _ |>.mpr (Or.inr ⟨0, Finset.mem_univ _, ?_⟩))
  · exact EReal.coe_le_coe_iff.mpr (neg_le_neg (h k))
  · exact le_rfl

/-- The reference's score of three real distances, the first the least. -/
theorem reference (x : FVec Ideal ReferenceIdeal.S16x784x3 .f32) (b : Fin 16) (n : Fin 784) (s : Fin 3 → ℝ) (h : ∀ k, s 0 ≤ s k)
    (hx : ∀ k, x (ix3 b n k) = (s k : EReal)) : ReferenceIdeal.Stages.score x (ix3 b 0 n)
      = ((1 * (1 + Real.exp (s 0 - s 1) + Real.exp (s 0 - s 2))⁻¹ * s 0 : ℝ) : EReal) := by
  have hs : Real.exp (-s 0 - -s 0) + Real.exp (-s 1 - -s 0) + Real.exp (-s 2 - -s 0) ≠ 0 := by positivity
  pointwise [ReferenceIdeal.Stages.score, ReferenceIdeal.Stages.powers]
  simp only [hx, bottom, ← EReal.coe_neg, maximum s h, ← EReal.coe_sub]
  have e : ∀ r : ℝ, Ideal.exp (r : EReal) = (Real.exp r : EReal) := fun r => rfl
  rw [Fin.sum_univ_three]
  simp only [e, ← EReal.coe_add]
  rw [ReferenceIdeal.Embed.div_coe _ _ hs, ← EReal.coe_mul]
  simp only [sub_self, Real.exp_zero, sub_neg_eq_add, neg_add_eq_sub, one_mul]

/-- The kernel's score of three real distances. -/
theorem kernel (s : Fin 3 → ℝ) :
    Ideal.div 1 (1 + Ideal.exp ((s 0 : EReal) - s 1) + Ideal.exp ((s 0 : EReal) - s 2)) * (s 0 : EReal)
      = ((1 * (1 + Real.exp (s 0 - s 1) + Real.exp (s 0 - s 2))⁻¹ * s 0 : ℝ) : EReal) := by
  have hs : 1 + Real.exp (s 0 - s 1) + Real.exp (s 0 - s 2) ≠ 0 := by positivity
  have e : ∀ r : ℝ, Ideal.exp (r : EReal) = (Real.exp r : EReal) := fun r => rfl
  rw [← EReal.coe_sub, ← EReal.coe_sub, e, e, ← EReal.coe_one, ← EReal.coe_add, ← EReal.coe_add, ReferenceIdeal.Embed.div_coe _ _ hs,
    ← EReal.coe_mul]

/-- The two scores agree at every pixel. -/
theorem score_eq (m : (ℓ : Loc nD τ sig) → Buf (Elt Ideal) ℓ) (c : Dev nD) (h : SelectEq.Reals m c) (b : Fin 16) (n : Fin 784) :
    Select.score (Grid.sixAt m c (Grid.pt b)) (ix3 0 0 n)
      = ReferenceIdeal.Stages.score (ReferenceIdeal.Stages.near3 (DistEq.dist m c)) (ix3 b 0 n) := by
  obtain ⟨t, hm, hk, -, hr⟩ := SelectEq.selected m c h b n
  obtain ⟨f, hf, root⟩ := root_real
  have e0 : (Grid.sixAt m c (Grid.pt b)).w0 (ix2 0 n) = (t 0 : EReal) := hk 0
  have e1 : (Grid.sixAt m c (Grid.pt b)).w1 (ix2 0 n) = (t 1 : EReal) := hk 1
  have e2 : (Grid.sixAt m c (Grid.pt b)).w2 (ix2 0 n) = (t 2 : EReal) := hk 2
  rw [reference _ b n (fun k => f (t ⟨k.val, by omega⟩)) (fun k => hf (hm (Fin.zero_le _))) (fun k => (hr k).trans (root _))]
  refine Eq.trans ?_ (kernel fun k => f (t ⟨k.val, by omega⟩))
  pointwise [Select.score, Select.root]
  rw [e0, e1, e2]
  have r : ∀ x : ℝ, Ideal.sqrt (max (x : EReal) (Ideal.ofBits .f32 0x2B8CBCCC#32)) = (f x : EReal) := root
  simp only [r]

end Cert.ScoreEq
end
-- ==== Proof.Results.lean ====
module
public import proofs.«01_k».proof.Proof.Finite
public import proofs.«01_k».proof.Proof.LossEq
public import proofs.«01_k».proof.Proof.ScoreEq

/-! # The three result arrays agree

The kernel's and the reference's result arrays as whole arrays, for memories that agree on the arguments and hold reals in
all of them but the radius. -/

@[expose] public section

noncomputable section

namespace Cert.Results

open Cert Idealize.ShloMosaic Idealize.ShloMosaic.TcCoe Cert.KernelIdeal Cert.KernelIdeal.Gen Cert.KernelIdeal.Value

variable (m : (ℓ : Loc nD τ sig) → Buf (Elt Ideal) ℓ) (c : Dev nD)

/-- The kernel's embedding array is the reference's embedding of the kernel's arguments. -/
theorem embedding (h : SelectEq.Reals m c) : G8 m c = EmbedEq.embed m c := by
  obtain ⟨h0, h1, h2, h3, -⟩ := h
  funext i
  obtain ⟨b, n, o, rfl⟩ : ∃ (b : Fin 16) (n : Fin 784) (o : Fin 256), i = ix3 b n o := ⟨_, _, _, eq_ix3 i⟩
  obtain ⟨e, hk, hr⟩ := EmbedEq.embed_eq m c h0 h1 h2 h3 b
  exact (Grid.emb_at m c b n o).trans ((hk n o).trans (hr n o).symm)

/-- The kernel's score array is the reference's score of the kernel's arguments. -/
theorem score (h : SelectEq.Reals m c) : G9 m c = ReferenceIdeal.Stages.score (ReferenceIdeal.Stages.near3 (DistEq.dist m c)) := by
  funext i
  obtain ⟨b, z, n, rfl⟩ : ∃ (b : Fin 16) (z : Fin 1) (n : Fin 784), i = ix3 b z n := ⟨_, _, _, eq_ix3 i⟩
  obtain rfl : z = 0 := Subsingleton.elim _ _
  exact (Grid.score_at m c b n).trans (ScoreEq.score_eq m c h b n)

/-- The kernel's loss is the reference's loss of the kernel's arguments. -/
theorem loss (h : SelectEq.Reals m c) :
    G10 m c = ReferenceIdeal.Stages.loss (ReferenceIdeal.Stages.near6 (DistEq.dist m c)) (m ((c : Thread nD τ).loc main_arg5)) := by
  rw [Grid.loss_eq]
  funext i
  obtain ⟨y, z, rfl⟩ : ∃ (y : Fin 1) (z : Fin 1), i = ix2 y z := ⟨_, _, eq_ix2 i⟩
  obtain rfl : y = 0 := Subsingleton.elim _ _
  obtain rfl : z = 0 := Subsingleton.elim _ _
  exact LossEq.loss_eq m c h _

end Cert.Results
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_finite
public import proofs.«01_k».proof.Proof.Results
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel terminates, leaves its arguments alone and ends with every counter at zero. -/
theorem frame_kernel : Cert.quiescent_Kernel := fun m ρ _ => Cert.Kernel.Gen.frame m ρ

/-- So does the kernel over the extended reals. -/
theorem frame_ideal : Cert.quiescent_KernelIdeal := fun m ρ _ => Cert.KernelIdeal.Gen.frame m ρ

/-- So does the reference, which has no counter at all. -/
theorem frame_reference : Cert.quiescent_ReferenceIdeal := fun m ρ _ =>
  θ_run_mono (Cert.ReferenceIdeal.Value.run (F := Ideal) m ρ) fun r h =>
    And.intro (fun c => (h c).2.2.2) (sem_eq_zero_of_no_sems (by decide) r.2)

/-- The two constants the kernel rounds are named at their exact values. -/
theorem preserves : Cert.preserves_Kernel_KernelIdeal :=
  ⟨IdealRules.named_const.statement Cert.KernelIdeal.κ "ninth" .f32 0x3DE38E39#32 ((1 / 9 : ℝ) : EReal) rfl,
    IdealRules.named_const.statement Cert.KernelIdeal.κ "loss_scale" .f32 0x3CD9AFE4#32 ((125 / 4704 : ℝ) : EReal) rfl⟩

/-- From arguments that are real, the radius excepted, the kernel and the reference end with the same loss, score and embedding. -/
theorem algebraic : Cert.algebraic_KernelIdeal_ReferenceIdeal_pre_finite := by
  intro m ρ m' ρ' hpre hagree
  refine ⟨fun c => Cert.KernelIdeal.Value.G10 m c, fun c => Cert.KernelIdeal.Value.G9 m c, fun c => Cert.KernelIdeal.Value.G8 m c,
    θ_run_mono (Cert.KernelIdeal.Value.run m ρ) fun r h c => ?_, θ_run_mono (Cert.ReferenceIdeal.Value.run m' ρ') fun r h c => ?_⟩
  · obtain ⟨e, s, l, rest⟩ := h c
    exact ⟨l, s, e, rest⟩
  · obtain ⟨l, s, e, rest⟩ := h c
    have reals : SelectEq.Reals m c := Finite.entries _ _ _ _ _ _ (hpre c)
    obtain ⟨a0, a1, a2, a3, a4, a5⟩ := hagree c
    have he : Cert.ReferenceIdeal.Stages.embedAt m' c = EmbedEq.embed m c := by
      unfold Cert.ReferenceIdeal.Stages.embedAt EmbedEq.embed
      rw [a0, a1, a2, a3]
    have hd : Cert.ReferenceIdeal.Stages.distAt m' c = DistEq.dist m c := by
      unfold Cert.ReferenceIdeal.Stages.distAt DistEq.dist
      rw [he, a4]
    refine ⟨l.trans ((Cert.ReferenceIdeal.Stages.out_loss m' c).trans ?_), s.trans ((Cert.ReferenceIdeal.Stages.out_score m' c).trans ?_),
      e.trans ((Cert.ReferenceIdeal.Stages.out_embed m' c).trans ?_), rest⟩
    · rw [hd, a5]
      exact (Results.loss m c reals).symm
    · rw [hd]
      exact (Results.score m c reals).symm
    · rw [he]
      exact (Results.embedding m c reals).symm

/-- Everything that is claimed. -/
theorem claim : Cert.Claim := ⟨Cert.Kernel.Gen.facts, Cert.KernelIdeal.Gen.facts, Cert.ReferenceIdeal.Gen.facts, Cert.Pre_finite.Gen.facts,
  frame_kernel, frame_ideal, fun m ρ _ => Cert.KernelIdeal.Gen.frame m ρ, frame_reference, fun m ρ _ => frame_reference m ρ trivial,
  preserves, algebraic⟩

end Cert.Proof

end
